-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_127" .f32 0x3C010204#32 ((127⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S7x512x512 : Shape := ⟨3, ![7, 512, 512]⟩
abbrev S7x8x128 : Shape := ⟨3, ![7, 8, 128]⟩
abbrev S3x512x2048 : Shape := ⟨3, ![3, 512, 2048]⟩
abbrev S4x512x512 : Shape := ⟨3, ![4, 512, 512]⟩
abbrev S8 : Shape := ⟨1, ![8]⟩
abbrev S3 : Shape := ⟨1, ![3]⟩
abbrev S7 : Shape := ⟨1, ![7]⟩
abbrev S4 : Shape := ⟨1, ![4]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S1x1 : Shape := ⟨2, ![1, 1]⟩
abbrev S8x128 : Shape := ⟨2, ![8, 128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .bf16⟩
  | .local _ .vmem, ⟨0, _⟩ => ⟨S8x512x512, .f32⟩
  | .local _ .vmem, ⟨1, _⟩ => ⟨S7x512x512, .i8⟩
  | .local _ .vmem, ⟨2, _⟩ => ⟨S7x8x128, .f32⟩
  | .local _ .vmem, ⟨3, _⟩ => ⟨S7x512x512, .i8⟩
  | .local _ .vmem, ⟨4, _⟩ => ⟨S7x8x128, .f32⟩
  | .local _ .vmem, ⟨5, _⟩ => ⟨S3x512x2048, .f32⟩
  | .local _ .vmem, ⟨6, _⟩ => ⟨S512x2048, .f32⟩
  | .local _ .vmem, ⟨7, _⟩ => ⟨S4x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c512_i32 : BitVec 32 := 512#32
  let v5 : BitVec 32 := Scalar.muli v4 c512_i32
  let c0_i32_5 : BitVec 32 := 0#32
  ![v5.toNat, 0]
def k0_off2 (d0 : Dev nD) (c0_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v67 : BitVec 32 := Scalar.subi v2 c0_i32_56
  let c8_i32_57 : BitVec 32 := 8#32
  let v68 : BitVec 32 := Scalar.addi v67 c8_i32_57
  let c8_i32_58 : BitVec 32 := 8#32
  let v69 : BitVec 32 := Scalar.remsi v68 c8_i32_58
  let c512_i32_59 : BitVec 32 := 512#32
  let v70 : BitVec 32 := Scalar.muli v69 c512_i32_59
  let c0_i32_64 : BitVec 32 := 0#32
  ![v70.toNat, 0]
def k0_dev1 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v95 : BitVec 32 := Scalar.addi v2 c1_i32_83
  let c8_i32_84 : BitVec 32 := 8#32
  let v96 : BitVec 32 := Scalar.remsi v95 c8_i32_84
  let c1_i32_86 : BitVec 32 := 1#32
  let v97 : BitVec 32 := Scalar.muli v96 c1_i32_86
  let v98 : BitVec 32 := Scalar.addi c0_i32_87 v97
  v98.toNat
def k0_dev2 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v99 : BitVec 32 := Scalar.addi v2 c2_i32_88
  let c8_i32_89 : BitVec 32 := 8#32
  let v100 : BitVec 32 := Scalar.remsi v99 c8_i32_89
  let c1_i32_91 : BitVec 32 := 1#32
  let v101 : BitVec 32 := Scalar.muli v100 c1_i32_91
  let v102 : BitVec 32 := Scalar.addi c0_i32_92 v101
  v102.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v103 : BitVec 32 := Scalar.addi v2 c3_i32_93
  let c8_i32_94 : BitVec 32 := 8#32
  let v104 : BitVec 32 := Scalar.remsi v103 c8_i32_94
  let c1_i32_96 : BitVec 32 := 1#32
  let v105 : BitVec 32 := Scalar.muli v104 c1_i32_96
  let v106 : BitVec 32 := Scalar.addi c0_i32_97 v105
  v106.toNat
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v107 : BitVec 32 := Scalar.addi v2 c4_i32_98
  let c8_i32_99 : BitVec 32 := 8#32
  let v108 : BitVec 32 := Scalar.remsi v107 c8_i32_99
  let c1_i32_101 : BitVec 32 := 1#32
  let v109 : BitVec 32 := Scalar.muli v108 c1_i32_101
  let v110 : BitVec 32 := Scalar.addi c0_i32_102 v109
  v110.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_103 : BitVec 32 := 5#32
  let v111 : BitVec 32 := Scalar.addi v2 c5_i32_103
  let c8_i32_104 : BitVec 32 := 8#32
  let v112 : BitVec 32 := Scalar.remsi v111 c8_i32_104
  let c1_i32_106 : BitVec 32 := 1#32
  let v113 : BitVec 32 := Scalar.muli v112 c1_i32_106
  let v114 : BitVec 32 := Scalar.addi c0_i32_107 v113
  v114.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v115 : BitVec 32 := Scalar.addi v2 c6_i32_108
  let c8_i32_109 : BitVec 32 := 8#32
  let v116 : BitVec 32 := Scalar.remsi v115 c8_i32_109
  let c1_i32_111 : BitVec 32 := 1#32
  let v117 : BitVec 32 := Scalar.muli v116 c1_i32_111
  let v118 : BitVec 32 := Scalar.addi c0_i32_112 v117
  v118.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_113 : BitVec 32 := 7#32
  let v119 : BitVec 32 := Scalar.addi v2 c7_i32_113
  let c8_i32_114 : BitVec 32 := 8#32
  let v120 : BitVec 32 := Scalar.remsi v119 c8_i32_114
  let c1_i32_116 : BitVec 32 := 1#32
  let v121 : BitVec 32 := Scalar.muli v120 c1_i32_116
  let v122 : BitVec 32 := Scalar.addi c0_i32_117 v121
  v122.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_119 : BitVec 32 := 1#32
  let v123 : BitVec 32 := Scalar.addi v2 c1_i32_119
  let c8_i32_120 : BitVec 32 := 8#32
  let v124 : BitVec 32 := Scalar.remsi v123 c8_i32_120
  let c1_i32_141 : BitVec 32 := 1#32
  let v164 : BitVec 32 := Scalar.muli v124 c1_i32_141
  let v165 : BitVec 32 := Scalar.addi c0_i32_142 v164
  v165.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_119 : BitVec 32 := 1#32
  let v123 : BitVec 32 := Scalar.addi v2 c1_i32_119
  let c8_i32_120 : BitVec 32 := 8#32
  let v124 : BitVec 32 := Scalar.remsi v123 c8_i32_120
  let c1_i32_151 : BitVec 32 := 1#32
  let v174 : BitVec 32 := Scalar.muli v124 c1_i32_151
  let v175 : BitVec 32 := Scalar.addi c0_i32_152 v174
  v175.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_157 : BitVec 32 := 2#32
  let v184 : BitVec 32 := Scalar.addi v2 c2_i32_157
  let c8_i32_158 : BitVec 32 := 8#32
  let v185 : BitVec 32 := Scalar.remsi v184 c8_i32_158
  let c1_i32_183 : BitVec 32 := 1#32
  let v225 : BitVec 32 := Scalar.muli v185 c1_i32_183
  let v226 : BitVec 32 := Scalar.addi c0_i32_184 v225
  v226.toNat
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_157 : BitVec 32 := 2#32
  let v184 : BitVec 32 := Scalar.addi v2 c2_i32_157
  let c8_i32_158 : BitVec 32 := 8#32
  let v185 : BitVec 32 := Scalar.remsi v184 c8_i32_158
  let c1_i32_193 : BitVec 32 := 1#32
  let v235 : BitVec 32 := Scalar.muli v185 c1_i32_193
  let v236 : BitVec 32 := Scalar.addi c0_i32_194 v235
  v236.toNat
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v245 : BitVec 32 := Scalar.addi v2 c3_i32_199
  let c8_i32_200 : BitVec 32 := 8#32
  let v246 : BitVec 32 := Scalar.remsi v245 c8_i32_200
  let c1_i32_225 : BitVec 32 := 1#32
  let v286 : BitVec 32 := Scalar.muli v246 c1_i32_225
  let v287 : BitVec 32 := Scalar.addi c0_i32_226 v286
  v287.toNat
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v245 : BitVec 32 := Scalar.addi v2 c3_i32_199
  let c8_i32_200 : BitVec 32 := 8#32
  let v246 : BitVec 32 := Scalar.remsi v245 c8_i32_200
  let c1_i32_235 : BitVec 32 := 1#32
  let v296 : BitVec 32 := Scalar.muli v246 c1_i32_235
  let v297 : BitVec 32 := Scalar.addi c0_i32_236 v296
  v297.toNat
def k0_dev14 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_241 : BitVec 32 := 4#32
  let v306 : BitVec 32 := Scalar.addi v2 c4_i32_241
  let c8_i32_242 : BitVec 32 := 8#32
  let v307 : BitVec 32 := Scalar.remsi v306 c8_i32_242
  let c1_i32_267 : BitVec 32 := 1#32
  let v347 : BitVec 32 := Scalar.muli v307 c1_i32_267
  let v348 : BitVec 32 := Scalar.addi c0_i32_268 v347
  v348.toNat
def k0_dev15 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_241 : BitVec 32 := 4#32
  let v306 : BitVec 32 := Scalar.addi v2 c4_i32_241
  let c8_i32_242 : BitVec 32 := 8#32
  let v307 : BitVec 32 := Scalar.remsi v306 c8_i32_242
  let c1_i32_277 : BitVec 32 := 1#32
  let v357 : BitVec 32 := Scalar.muli v307 c1_i32_277
  let v358 : BitVec 32 := Scalar.addi c0_i32_278 v357
  v358.toNat
def k0_dev16 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_283 : BitVec 32 := 5#32
  let v367 : BitVec 32 := Scalar.addi v2 c5_i32_283
  let c8_i32_284 : BitVec 32 := 8#32
  let v368 : BitVec 32 := Scalar.remsi v367 c8_i32_284
  let c1_i32_309 : BitVec 32 := 1#32
  let v408 : BitVec 32 := Scalar.muli v368 c1_i32_309
  let v409 : BitVec 32 := Scalar.addi c0_i32_310 v408
  v409.toNat
def k0_dev17 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_283 : BitVec 32 := 5#32
  let v367 : BitVec 32 := Scalar.addi v2 c5_i32_283
  let c8_i32_284 : BitVec 32 := 8#32
  let v368 : BitVec 32 := Scalar.remsi v367 c8_i32_284
  let c1_i32_319 : BitVec 32 := 1#32
  let v418 : BitVec 32 := Scalar.muli v368 c1_i32_319
  let v419 : BitVec 32 := Scalar.addi c0_i32_320 v418
  v419.toNat
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_325 : BitVec 32 := 6#32
  let v428 : BitVec 32 := Scalar.addi v2 c6_i32_325
  let c8_i32_326 : BitVec 32 := 8#32
  let v429 : BitVec 32 := Scalar.remsi v428 c8_i32_326
  let c1_i32_351 : BitVec 32 := 1#32
  let v469 : BitVec 32 := Scalar.muli v429 c1_i32_351
  let v470 : BitVec 32 := Scalar.addi c0_i32_352 v469
  v470.toNat
def k0_dev19 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_325 : BitVec 32 := 6#32
  let v428 : BitVec 32 := Scalar.addi v2 c6_i32_325
  let c8_i32_326 : BitVec 32 := 8#32
  let v429 : BitVec 32 := Scalar.remsi v428 c8_i32_326
  let c1_i32_361 : BitVec 32 := 1#32
  let v479 : BitVec 32 := Scalar.muli v429 c1_i32_361
  let v480 : BitVec 32 := Scalar.addi c0_i32_362 v479
  v480.toNat
def k0_dev20 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_367 : BitVec 32 := 7#32
  let v489 : BitVec 32 := Scalar.addi v2 c7_i32_367
  let c8_i32_368 : BitVec 32 := 8#32
  let v490 : BitVec 32 := Scalar.remsi v489 c8_i32_368
  let c1_i32_393 : BitVec 32 := 1#32
  let v530 : BitVec 32 := Scalar.muli v490 c1_i32_393
  let v531 : BitVec 32 := Scalar.addi c0_i32_394 v530
  v531.toNat
def k0_dev21 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_367 : BitVec 32 := 7#32
  let v489 : BitVec 32 := Scalar.addi v2 c7_i32_367
  let c8_i32_368 : BitVec 32 := 8#32
  let v490 : BitVec 32 := Scalar.remsi v489 c8_i32_368
  let c1_i32_403 : BitVec 32 := 1#32
  let v540 : BitVec 32 := Scalar.muli v490 c1_i32_403
  let v541 : BitVec 32 := Scalar.addi c0_i32_404 v540
  v541.toNat
-- ==== KernelIdeal.lean ====
variable {F : FTy → Type} [FloatOps F] [Named F]
def κ : String → Option EReal := fun
  | "inv_127" => some ((127⁻¹ : ℝ) : EReal)
  | _ => none
-- ==== ReferenceIdeal.lean ====
abbrev S4096x4096 : Shape := ⟨2, ![4096, 4096]⟩
abbrev S4096x2048 : Shape := ⟨2, ![4096, 2048]⟩
abbrev S8x512x8x512 : Shape := ⟨4, ![8, 512, 8, 512]⟩
abbrev S_ : Shape := ⟨0, ![]⟩
abbrev S8x8 : Shape := ⟨2, ![8, 8]⟩
abbrev S8x1x8x1 : Shape := ⟨4, ![8, 1, 8, 1]⟩
abbrev S8 : Shape := ⟨1, ![8]⟩
abbrev S8x1x1x1 : Shape := ⟨4, ![8, 1, 1, 1]⟩
abbrev S1x1x8x1 : Shape := ⟨4, ![1, 1, 8, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S8x512x8x512, .f32⟩
  | .hbm, ⟨3, _⟩ => ⟨S8x512x8x512, .f32⟩
  | .hbm, ⟨4, _⟩ => ⟨S_, .f32⟩
  | .hbm, ⟨5, _⟩ => ⟨S8x8, .f32⟩
  | .hbm, ⟨6, _⟩ => ⟨S8x1x8x1, .f32⟩
  | .hbm, ⟨7, _⟩ => ⟨S_, .f32⟩
  | .hbm, ⟨8, _⟩ => ⟨S8x1x8x1, .f32⟩
  | .hbm, ⟨9, _⟩ => ⟨S8x1x8x1, .f32⟩
  | .hbm, ⟨10, _⟩ => ⟨S_, .f32⟩
  | .hbm, ⟨11, _⟩ => ⟨S8x1x8x1, .f32⟩
  | .hbm, ⟨12, _⟩ => ⟨S8x1x8x1, .f32⟩
  | .hbm, ⟨13, _⟩ => ⟨S8x512x8x512, .f32⟩
  | .hbm, ⟨14, _⟩ => ⟨S8x512x8x512, .f32⟩
  | .hbm, ⟨15, _⟩ => ⟨S_, .f32⟩
  | .hbm, ⟨16, _⟩ => ⟨S8x512x8x512, .f32⟩
  | .hbm, ⟨17, _⟩ => ⟨S8x512x8x512, .f32⟩
  | .hbm, ⟨18, _⟩ => ⟨S8x512x8x512, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S8x512x8x512, .f32⟩
  | .hbm, ⟨23, _⟩ => ⟨S8x512x8x512, .f32⟩
  | .hbm, ⟨24, _⟩ => ⟨S_, .f32⟩
  | .hbm, ⟨25, _⟩ => ⟨S8x512x8x512, .f32⟩
  | .hbm, ⟨26, _⟩ => ⟨S8x512x8x512, .f32⟩
  | .hbm, ⟨27, _⟩ => ⟨S_, .f32⟩
  | .hbm, ⟨28, _⟩ => ⟨S8x1x8x1, .f32⟩
  | .hbm, ⟨29, _⟩ => ⟨S8x1x8x1, .f32⟩
  | .hbm, ⟨30, _⟩ => ⟨S8x512x8x512, .f32⟩
  | .hbm, ⟨31, _⟩ => ⟨S8x512x8x512, .f32⟩
  | .hbm, ⟨32, _⟩ => ⟨S8, .i32⟩
  | .hbm, ⟨33, _⟩ => ⟨S8x1x1x1, .i32⟩
  | .hbm, ⟨34, _⟩ => ⟨S8, .i32⟩
  | .hbm, ⟨35, _⟩ => ⟨S1x1x8x1, .i32⟩
  | .hbm, ⟨36, _⟩ => ⟨S8x1x8x1, .i32⟩
  | .hbm, ⟨37, _⟩ => ⟨S8x1x8x1, .i32⟩
  | .hbm, ⟨38, _⟩ => ⟨S8x1x8x1, .i1⟩
  | .hbm, ⟨39, _⟩ => ⟨S8x512x8x512, .i1⟩
  | .hbm, ⟨40, _⟩ => ⟨S8x512x8x512, .f32⟩
  | .hbm, ⟨41, _⟩ => ⟨S4096x4096, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Cells.lean ====
/-
# The cells: the kernel's buffers cut into slots, its semaphores, the mesh arithmetic

Device `c` is one of eight. At step `i = 0 … 6` it sends the block quantised in slot `i` of its own buffers to slot `i`
of device `fw i c`, the device `i + 1` after it round the mesh; `bk i c` is the device `i + 1` before it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The mesh -/

set_option backward.proofsInPublic true in
/-- The device `i + 1` places after `c`. -/
def fw (i : ℕ) (c : Dev nD) : Dev nD := ⟨(c.val + (i + 1)) % 8, Nat.mod_lt _ (by decide)⟩
set_option backward.proofsInPublic true in
/-- The device `i + 1` places before `c`, for `i ≤ 6`. -/
def bk (i : ℕ) (c : Dev nD) : Dev nD := ⟨(c.val + (7 - i)) % 8, Nat.mod_lt _ (by decide)⟩

theorem bk_fw {i : ℕ} (h : i < 7) (c : Dev nD) : bk i (fw i c) = c := by
  have := c.isLt; change c.val < 8 at this
  apply Fin.ext; simp only [bk, fw]; omega
theorem fw_bk {i : ℕ} (h : i < 7) (c : Dev nD) : fw i (bk i c) = c := by
  have := c.isLt; change c.val < 8 at this
  apply Fin.ext; simp only [bk, fw]; omega
/-- Going `i + 1` places back is going `7 - i` places on. -/
theorem bk_eq_fw {i : ℕ} (h : i < 7) (c : Dev nD) : bk i c = fw (6 - i) c := by
  apply Fin.ext; simp only [bk, fw]; omega

/-- The two as a permutation of the mesh. -/
def turn (i : Fin 7) : Dev nD ≃ Dev nD := ⟨fw i, bk i, bk_fw i.isLt, fw_bk i.isLt⟩

/-! ## The memrefs -/

abbrev xM : Memref sig .tc .hbm S4096x512 .f32 := Memref.whole main_arg0
abbrev wM : Memref sig .tc .hbm S4096x2048 .f32 := Memref.whole main_arg1
abbrev outM : Memref sig .tc .hbm S512x2048 .bf16 := Memref.whole main_v1
abbrev xfM : Memref sig .tc .vmem S8x512x512 .f32 := Memref.whole cc0_scratch0
abbrev xqM : Memref sig .tc .vmem S7x512x512 .i8 := Memref.whole cc0_scratch1
abbrev qsM : Memref sig .tc .vmem S7x8x128 .f32 := Memref.whole cc0_scratch2
abbrev coM : Memref sig .tc .vmem S7x512x512 .i8 := Memref.whole cc0_scratch3
abbrev rsM : Memref sig .tc .vmem S7x8x128 .f32 := Memref.whole cc0_scratch4
abbrev wbM : Memref sig .tc .vmem S3x512x2048 .f32 := Memref.whole cc0_scratch5
abbrev accM : Memref sig .tc .vmem S512x2048 .f32 := Memref.whole cc0_scratch6
abbrev yM : Memref sig .tc .vmem S4x512x512 .bf16 := Memref.whole cc0_scratch7

theorem inbX {i : ℕ} (h : i < 8) : ∀ a, (![i, 0, 0] : Fin 3 → Nat) a + S1x512x512.size a ≤ S8x512x512.size a := by
  intro a; fin_cases a
  · show i + 1 ≤ 8; omega
  · show 0 + 512 ≤ 512; omega
  · show 0 + 512 ≤ 512; omega
theorem inbQ {i : ℕ} (h : i < 7) : ∀ a, (![i, 0, 0] : Fin 3 → Nat) a + S1x512x512.size a ≤ S7x512x512.size a := by
  intro a; fin_cases a
  · show i + 1 ≤ 7; omega
  · show 0 + 512 ≤ 512; omega
  · show 0 + 512 ≤ 512; omega
theorem inbS {i : ℕ} (h : i < 7) : ∀ a, (![i, 0, 0] : Fin 3 → Nat) a + S1x8x128.size a ≤ S7x8x128.size a := by
  intro a; fin_cases a
  · show i + 1 ≤ 7; omega
  · show 0 + 8 ≤ 8; omega
  · show 0 + 128 ≤ 128; omega
theorem inbW {i : ℕ} (h : i < 3) : ∀ a, (![i, 0, 0] : Fin 3 → Nat) a + S1x512x2048.size a ≤ S3x512x2048.size a := by
  intro a; fin_cases a
  · show i + 1 ≤ 3; omega
  · show 0 + 512 ≤ 512; omega
  · show 0 + 2048 ≤ 2048; omega
theorem inbY {i : ℕ} (h : i < 4) : ∀ a, (![i, 0, 0] : Fin 3 → Nat) a + S1x512x512.size a ≤ S4x512x512.size a := by
  intro a; fin_cases a
  · show i + 1 ≤ 4; omega
  · show 0 + 512 ≤ 512; omega
  · show 0 + 512 ≤ 512; omega

abbrev xfR (i : ℕ) (h : i < 8) : Rect S8x512x512 := Rect.unit (s := S8x512x512) ![i, 0, 0] S1x512x512.size (inbX h)
abbrev qR (i : ℕ) (h : i < 7) : Rect S7x512x512 := Rect.unit (s := S7x512x512) ![i, 0, 0] S1x512x512.size (inbQ h)
abbrev sR (i : ℕ) (h : i < 7) : Rect S7x8x128 := Rect.unit (s := S7x8x128) ![i, 0, 0] S1x8x128.size (inbS h)
abbrev wbR (i : ℕ) (h : i < 3) : Rect S3x512x2048 := Rect.unit (s := S3x512x2048) ![i, 0, 0] S1x512x2048.size (inbW h)
abbrev yR (i : ℕ) (h : i < 4) : Rect S4x512x512 := Rect.unit (s := S4x512x512) ![i, 0, 0] S1x512x512.size (inbY h)

/-- Slot `i` of each buffer, as the program cuts it. -/
abbrev xfS (i : ℕ) (h : i < 8) : Memref sig .tc .vmem S512x512 .f32 := (xfM.slice (xfR i h) (fun _ => rfl)).squeeze S512x512 squeezes_S1x512x512_S512x512
abbrev xqS (i : ℕ) (h : i < 7) : Memref sig .tc .vmem S512x512 .i8 := (xqM.slice (qR i h) (fun _ => rfl)).squeeze S512x512 squeezes_S1x512x512_S512x512
abbrev qsS (i : ℕ) (h : i < 7) : Memref sig .tc .vmem S8x128 .f32 := (qsM.slice (sR i h) (fun _ => rfl)).squeeze S8x128 squeezes_S1x8x128_S8x128
abbrev coS (i : ℕ) (h : i < 7) : Memref sig .tc .vmem S512x512 .i8 := (coM.slice (qR i h) (fun _ => rfl)).squeeze S512x512 squeezes_S1x512x512_S512x512
abbrev rsS (i : ℕ) (h : i < 7) : Memref sig .tc .vmem S8x128 .f32 := (rsM.slice (sR i h) (fun _ => rfl)).squeeze S8x128 squeezes_S1x8x128_S8x128

end Cert.KernelIdeal.Run
end
-- ==== Proof.Steps.lean ====
/-
# The kernel as a sequence of steps

The printed program cut at its own seams: the copies in, the seven signals, the barrier wait, seven send steps, the
device's own product, six receive steps, the last receive step with its four output tiles, the fourteen waits for
the departures, the four waits for the output. `body_eq` says that the printed program is this sequence.
-/
module

public import proofs.«01_k».proof.Proof.Cells

@[expose] public section

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F] [Named F]

/-! ## Facts about the slots -/

theorem inbSem {n i : ℕ} (h : i < n) : ∀ a, (![i] : Fin 1 → Nat) a + S1.size a ≤ (Shape.size ⟨1, ![n]⟩) a := by
  intro a; fin_cases a; show i + 1 ≤ n; omega

theorem inbS1 {i : ℕ} (h : i < 7) : ∀ a, (![i, 0, 0] : Fin 3 → Nat) a + S1x1x1.size a ≤ S7x8x128.size a := by
  intro a; fin_cases a
  · show i + 1 ≤ 7; omega
  · show 0 + 1 ≤ 8; omega
  · show 0 + 1 ≤ 128; omega
theorem packQ {i : ℕ} (h : i < 7) : (qR i h).PackedRows (EltTy.packing .i8) := by
  interval_cases i
  exacts [packedi8_S7x512x512_S1x512x512_0_0_0, packedi8_S7x512x512_S1x512x512_1_0_0, packedi8_S7x512x512_S1x512x512_2_0_0,
    packedi8_S7x512x512_S1x512x512_3_0_0, packedi8_S7x512x512_S1x512x512_4_0_0, packedi8_S7x512x512_S1x512x512_5_0_0,
    packedi8_S7x512x512_S1x512x512_6_0_0]
theorem wordsQ {i : ℕ} (h : i < 7) : (qR i h).WholeWords (EltTy.packing .i8) := by
  interval_cases i
  exacts [wordsi8_S7x512x512_S1x512x512_0_0_0, wordsi8_S7x512x512_S1x512x512_1_0_0, wordsi8_S7x512x512_S1x512x512_2_0_0,
    wordsi8_S7x512x512_S1x512x512_3_0_0, wordsi8_S7x512x512_S1x512x512_4_0_0, wordsi8_S7x512x512_S1x512x512_5_0_0,
    wordsi8_S7x512x512_S1x512x512_6_0_0]
theorem packY {i : ℕ} (h : i < 4) : (yR i h).PackedRows (EltTy.packing .bf16) := by
  interval_cases i
  exacts [packedbf16_S4x512x512_S1x512x512_0_0_0, packedbf16_S4x512x512_S1x512x512_1_0_0,
    packedbf16_S4x512x512_S1x512x512_2_0_0, packedbf16_S4x512x512_S1x512x512_3_0_0]
theorem wordsY {i : ℕ} (h : i < 4) : (yR i h).WholeWords (EltTy.packing .bf16) := by
  interval_cases i
  exacts [wordsbf16_S4x512x512_S1x512x512_0_0_0, wordsbf16_S4x512x512_S1x512x512_1_0_0,
    wordsbf16_S4x512x512_S1x512x512_2_0_0, wordsbf16_S4x512x512_S1x512x512_3_0_0]
theorem inbOut {h : ℕ} (hh : h < 4) : ∀ a, (![0, 512 * h] : Fin 2 → Nat) a + S512x512.size a ≤ S512x2048.size a := by
  intro a; fin_cases a
  · show 0 + 512 ≤ 512; omega
  · show 512 * h + 512 ≤ 2048; omega
theorem slicesOut {h : ℕ} (hh : h < 4) : S512x2048.Slices ![0, 512 * h] S512x512 := by
  interval_cases h
  exacts [slices_S512x2048_o0_0_S512x512, slices_S512x2048_o0_512_S512x512, slices_S512x2048_o0_1024_S512x512,
    slices_S512x2048_o0_1536_S512x512]
/-- The columns `512 h …` of the output. -/
abbrev outR (h : ℕ) (hh : h < 4) : Rect S512x2048 := Rect.unit (s := S512x2048) ![0, 512 * h] S512x512.size (inbOut hh)
theorem wordsOut {h : ℕ} (hh : h < 4) : (outR h hh).WholeWords (EltTy.packing .bf16) := by
  interval_cases h
  exacts [wordsbf16_S512x2048_S512x512_0_0, wordsbf16_S512x2048_S512x512_0_512, wordsbf16_S512x2048_S512x512_0_1024,
    wordsbf16_S512x2048_S512x512_0_1536]

abbrev semAt {n : ℕ} (s : DmaSems sig ⟨1, ![n]⟩) (i : ℕ) (h : i < n) : DmaSem sig :=
  ((s.slice (Rect.unit (s := ⟨1, ![n]⟩) ![i] S1.size (inbSem h))).squeeze S_ squeezes_S1_S_).sem
abbrev xSem (i : ℕ) (h : i < 8) : DmaSem sig := semAt (n := 8) cc0_scratch8 i h
abbrev wSem (i : ℕ) (h : i < 3) : DmaSem sig := semAt (n := 3) cc0_scratch9 i h
abbrev qSendSem (i : ℕ) (h : i < 7) : DmaSem sig := semAt (n := 7) cc0_scratch10 i h
abbrev sSendSem (i : ℕ) (h : i < 7) : DmaSem sig := semAt (n := 7) cc0_scratch11 i h
abbrev qRecvSem (i : ℕ) (h : i < 7) : DmaSem sig := semAt (n := 7) cc0_scratch12 i h
abbrev sRecvSem (i : ℕ) (h : i < 7) : DmaSem sig := semAt (n := 7) cc0_scratch13 i h
abbrev ySem (i : ℕ) (h : i < 4) : DmaSem sig := semAt (n := 4) cc0_scratch14 i h
abbrev barSem : Sem sig := (SemArray.scalar (sig.barrier 0 rfl) : Sems sig S_).sem

abbrev wbS (i : ℕ) (h : i < 3) : Memref sig .tc .vmem S512x2048 .f32 := (wbM.slice (wbR i h) (fun _ => rfl)).squeeze S512x2048 squeezes_S1x512x2048_S512x2048
abbrev yS (i : ℕ) (h : i < 4) : Memref sig .tc .vmem S512x512 .bf16 := (yM.slice (yR i h) (fun _ => rfl)).squeeze S512x512 squeezes_S1x512x512_S512x512
abbrev outS (h : ℕ) (hh : h < 4) : Memref sig .tc .hbm S512x512 .bf16 := outM.slice (outR h hh) (fun _ => rfl)
/-- The 512 rows of the first argument that the copy of step `i` reads. -/
abbrev xRow (d : Dev nD) (i : ℕ) (h : i < 8) : Memref sig .tc .hbm S512x512 .f32 :=
  xM.slice (Rect.unit (s := S4096x512) (k0_off1 d (BitVec.ofNat 32 i)) S512x512.size (k0_off1_inb d ⟨i, h⟩)) (fun _ => rfl)
/-- The 512 rows of the second argument that the copy of step `i` reads. -/
abbrev wRow (d : Dev nD) (i : ℕ) (h : i < 8) : Memref sig .tc .hbm S512x2048 .f32 :=
  wM.slice (Rect.unit (s := S4096x2048) (k0_off2 d (BitVec.ofNat 32 i)) S512x2048.size (k0_off2_inb d ⟨i, h⟩)) (fun _ => rfl)

/-! ## What a step computes -/

/-- The quantised block. -/
def quant (v : Vec F S1x512x512 .f32) : IVec S1x512x512 8 := k0_pay4 (k0_pay1 v) (k0_pay2 v)
/-- The scale of a block, spread over a tile. -/
def scale (v : Vec F S1x512x512 .f32) : FVec F S1x8x128 .f32 := k0_pay5 (k0_pay2 v)
/-- The device's own product. -/
def ownDot (x : Vec F S1x512x512 .f32) (w : Vec F S1x512x2048 .f32) : FVec F S512x2048 .f32 := k0_pay35 x w
/-- The accumulator after a received block. -/
def accAdd (q : Vec F S1x512x512 .i8) (w : Vec F S1x512x2048 .f32) (a : Vec F S512x2048 .f32) (s : Vec F S1x1x1 .f32) :
    FVec F S512x2048 .f32 := k0_pay36 q w a s
/-- One output tile from the last received block. -/
def yTile (h : ℕ) (hh : h < 4) (q : Vec F S1x512x512 .i8) (s : Vec F S1x1x1 .f32) (w : Vec F S1x512x2048 .f32)
    (a : Vec F S512x512 .f32) : FVec F S1x512x512 .bf16 :=
  have v860 := k0_pay44 q
  have v862 := k0_pay45 s
  have v926 : FVec F S512x2048 .f32 := shapeCast S512x2048 w shapeCasts_S1x512x2048_S512x2048
  have v927 : FVec F S512x512 .f32 := extractStridedSlice S512x512 ![0, 512 * h] v926 (slicesOut hh)
  have v928 : FVec F S512x512 .bf16 := truncf .bf16 v927 bitsLt_bf16_f32
  have cst_778 : FVec F S512x512 .f32 := constant S512x512 .f32 0x00000000#32
  have v929 : FVec F S512x512 .f32 := matmul dot_S512x512_S512x512_S512x512_1_0_0_1_n_n none v860 v928 cst_778
  have v931 : FVec F S512x512 .f32 := broadcastTo S512x512 v862 broadcasts_S1x1_S512x512
  have v932 : FVec F S512x512 .f32 := mulf v929 v931
  have v933 : FVec F S512x512 .f32 := addf a v932
  have cst_780 : F .f32 := Scalar.ofBits .f32 0x3F000000#32
  have v934 : FVec F S512x512 .f32 := broadcast S512x512 cst_780
  have v935 : FVec F S512x512 .f32 := mulf v934 v933
  have cst_781 : F .f32 := Scalar.ofBits .f32 0x3D372713#32
  have v936 : FVec F S512x512 .f32 := broadcast S512x512 cst_781
  have v937 : FVec F S512x512 .f32 := mulf v936 v933
  have v938 : FVec F S512x512 .f32 := mulf v937 v933
  have v939 : FVec F S512x512 .f32 := mulf v938 v933
  have v940 : FVec F S512x512 .f32 := addf v933 v939
  have cst_782 : F .f32 := Scalar.ofBits .f32 0x3F4C422A#32
  have v941 : FVec F S512x512 .f32 := broadcast S512x512 cst_782
  have v942 : FVec F S512x512 .f32 := mulf v941 v940
  have v943 : FVec F S512x512 .f32 := tanh v942
  have cst_783 : F .f32 := Scalar.ofBits .f32 0x3F800000#32
  have v944 : FVec F S512x512 .f32 := broadcast S512x512 cst_783
  have v945 : FVec F S512x512 .f32 := addf v944 v943
  have v946 : FVec F S512x512 .f32 := mulf v935 v945
  have v947 : FVec F S512x512 .bf16 := truncf .bf16 v946 bitsLt_bf16_f32
  have v950 : FVec F S1x512x512 .bf16 := shapeCast S1x512x512 v947 shapeCasts_S512x512_S1x512x512
  v950

/-! ## The steps -/

abbrev KProg : Type 1 := Prog (TpuEff nD τ sig (Elt F) Λ₀ .tc) PUnit

abbrev xqMw : (xqM).IsWhole := Memref.isWhole_whole _
abbrev coMw : (coM).IsWhole := Memref.isWhole_whole _
abbrev yMw : (yM).IsWhole := Memref.isWhole_whole _
abbrev outMw : (outM).IsWhole := Memref.isWhole_whole _

/-- The copy of one row block of the first argument into its slot. -/
def xCopy (d : Dev nD) (i : ℕ) (h : i < 8) : KProg (F := F) :=
  Prog.lift (.enqueueDma (xRow d i h) (.here (xfS i h)) (.dma (xSem i h)) (View.wordExact_bits rfl) ((View.wordExact_bits rfl).reshape _ _) ⟨Or.inl rfl, trivial⟩)
/-- Its wait. -/
def xWait (d : Dev nD) (i : ℕ) (h : i < 8) : KProg (F := F) :=
  Prog.lift (.waitDma2 (xSem i h) (xRow d i h) (xfS i h) (View.wordExact_bits rfl) ((View.wordExact_bits rfl).reshape _ _))
/-- The copy of row block `i` of the second argument into slot `j`. -/
def wCopy (d : Dev nD) (i : ℕ) (h : i < 8) (j : ℕ) (hj : j < 3) : KProg (F := F) :=
  Prog.lift (.enqueueDma (wRow d i h) (.here (wbS j hj)) (.dma (wSem j hj)) (View.wordExact_bits rfl) ((View.wordExact_bits rfl).reshape _ _) ⟨Or.inl rfl, trivial⟩)
/-- Its wait. -/
def wWait (d : Dev nD) (i : ℕ) (h : i < 8) (j : ℕ) (hj : j < 3) : KProg (F := F) :=
  Prog.lift (.waitDma2 (wSem j hj) (wRow d i h) (wbS j hj) (View.wordExact_bits rfl) ((View.wordExact_bits rfl).reshape _ _))
/-- The remote copy of a quantised block to device `n`. -/
def qSend (n : Dev nD) (i : ℕ) (h : i < 7) : KProg (F := F) :=
  Prog.lift (.enqueueDma (xqS i h) (.remote (Dev.tc n) (coS i h) (.dma (qSendSem i h))) (.dma (qRecvSem i h)) ((xqMw.wordExact_slice rfl _ (wordsQ h)).reshape _ _) ((coMw.wordExact_slice rfl _ (wordsQ h)).reshape _ _) ⟨⟨rfl, Or.inl rfl⟩, trivial⟩)
/-- The remote copy of its scale. -/
def sSend (n : Dev nD) (i : ℕ) (h : i < 7) : KProg (F := F) :=
  Prog.lift (.enqueueDma (qsS i h) (.remote (Dev.tc n) (rsS i h) (.dma (sSendSem i h))) (.dma (sRecvSem i h)) ((View.wordExact_bits rfl).reshape _ _) ((View.wordExact_bits rfl).reshape _ _) ⟨⟨rfl, Or.inl rfl⟩, trivial⟩)
/-- Quantise slot `i + 1` into slot `i` of the two send buffers. -/
def quantise (i : ℕ) (h : i < 7) : KProg (F := F) := do
  let v ← Prog.lift (.load xfM (xfR (i + 1) (Nat.succ_lt_succ h)).toLoadRect (View.loadsAt_vmem h_S1x512x512))
  let _ ← Prog.lift (.load xqM (qR i h).toLoadRect (View.loadsAt_vmem h_S1x512x512))
  Prog.lift (.store xqM (qR i h) (quant v) Finset.univ (View.stores_vmem h_S1x512x512 (xqMw.storeExact_slice rfl _ (packQ h)) (fun _ => rfl)) (.inl rfl))
  let _ ← Prog.lift (.load qsM (sR i h).toLoadRect (View.loadsAt_vmem h_S1x8x128))
  Prog.lift (.store qsM (sR i h) (scale v) Finset.univ (View.stores_vmem_bits_univ h_S1x8x128 rfl) (.inl rfl))
/-- A send step to devices `n` and `n'` (the same one). -/
def sendStep (d n n' : Dev nD) (i : ℕ) (h : i < 7) : KProg (F := F) := do
  xWait d (i + 1) (Nat.succ_lt_succ h)
  quantise i h
  qSend n i h
  sSend n' i h
/-- The device's own product, into the accumulator. -/
def product : KProg (F := F) := do
  let x ← Prog.lift (.load xfM (xfR 0 (by decide)).toLoadRect (View.loadsAt_vmem h_S1x512x512))
  let w ← Prog.lift (.load wbM (wbR 0 (by decide)).toLoadRect (View.loadsAt_vmem h_S1x512x2048))
  let _ ← Prog.lift (.load accM (Rect.unit (s := S512x2048) ![0, 0] S512x2048.size inb_S512x2048_S512x2048_0_0).toLoadRect (View.loadsAt_vmem h_S512x2048))
  Prog.lift (.store accM (Rect.unit (s := S512x2048) ![0, 0] S512x2048.size inb_S512x2048_S512x2048_0_0) (ownDot x w) Finset.univ (View.stores_vmem_bits_univ h_S512x2048 rfl) (.inl rfl))
/-- Its two waits and the product. -/
def ownStep (d : Dev nD) : KProg (F := F) := do
  xWait d 0 (by decide)
  wWait d 0 (by decide) 0 (by decide)
  product
/-- The wait for a quantised block. -/
def qRecv (i : ℕ) (h : i < 7) : KProg (F := F) :=
  Prog.lift (.waitDma2 (qRecvSem i h) (coS i h) (coS i h) ((coMw.wordExact_slice rfl _ (wordsQ h)).reshape _ _) ((coMw.wordExact_slice rfl _ (wordsQ h)).reshape _ _))
/-- The wait for its scale. -/
def sRecv (i : ℕ) (h : i < 7) : KProg (F := F) :=
  Prog.lift (.waitDma2 (sRecvSem i h) (rsS i h) (rsS i h) ((View.wordExact_bits rfl).reshape _ _) ((View.wordExact_bits rfl).reshape _ _))
/-- Add the product of a received block to the accumulator. -/
def accumulate (i : ℕ) (h : i < 7) (j : ℕ) (hj : j < 3) : KProg (F := F) := do
  let q ← Prog.lift (.load coM (qR i h).toLoadRect (View.loadsAt_vmem h_S1x512x512))
  let w ← Prog.lift (.load wbM (wbR j hj).toLoadRect (View.loadsAt_vmem h_S1x512x2048))
  let a ← Prog.lift (.load accM (Rect.unit (s := S512x2048) ![0, 0] S512x2048.size inb_S512x2048_S512x2048_0_0).toLoadRect (View.loadsAt_vmem h_S512x2048))
  let s ← Prog.lift (.load rsM (Rect.unit (s := S7x8x128) ![i, 0, 0] S1x1x1.size (inbS1 h)).toLoadRect (View.loadsAt_vmem h_S1x1x1))
  let _ ← Prog.lift (.load accM (Rect.unit (s := S512x2048) ![0, 0] S512x2048.size inb_S512x2048_S512x2048_0_0).toLoadRect (View.loadsAt_vmem h_S512x2048))
  Prog.lift (.store accM (Rect.unit (s := S512x2048) ![0, 0] S512x2048.size inb_S512x2048_S512x2048_0_0) (accAdd q w a s) Finset.univ (View.stores_vmem_bits_univ h_S512x2048 rfl) (.inl rfl))
/-- A receive step: the block in slot `i` against row block `i + 1` of the second argument, in slot `j`. -/
def recvStep (d : Dev nD) (i : ℕ) (h : i < 7) (j : ℕ) (hj : j < 3) : KProg (F := F) := do
  wWait d (i + 1) (Nat.succ_lt_succ h) j hj
  qRecv i h
  sRecv i h
  accumulate i h j hj
/-- One output tile: computed, kept, sent out. -/
def tile (h : ℕ) (hh : h < 4) (q : Vec F S1x512x512 .i8) (s : Vec F S1x1x1 .f32) : KProg (F := F) := do
  let w ← Prog.lift (.load wbM (wbR 1 (by decide)).toLoadRect (View.loadsAt_vmem h_S1x512x2048))
  let a ← Prog.lift (.load accM (outR h hh).toLoadRect (View.loadsAt_vmem h_S512x512))
  let _ ← Prog.lift (.load yM (yR h hh).toLoadRect (View.loadsAt_vmem h_S1x512x512))
  Prog.lift (.store yM (yR h hh) (yTile h hh q s w a) Finset.univ (View.stores_vmem h_S1x512x512 (yMw.storeExact_slice rfl _ (packY hh)) (fun _ => rfl)) (.inl rfl))
  Prog.lift (.enqueueDma (yS h hh) (.here (outS h hh)) (.dma (ySem h hh)) ((yMw.wordExact_slice rfl _ (wordsY hh)).reshape _ _) (outMw.wordExact_slice rfl _ (wordsOut hh)) ⟨Or.inl rfl, trivial⟩)
/-- The last receive step. -/
def lastStep (d : Dev nD) : KProg (F := F) := do
  wWait d 7 (by decide) 1 (by decide)
  qRecv 6 (by decide)
  sRecv 6 (by decide)
  let q ← Prog.lift (.load coM (qR 6 (by decide)).toLoadRect (View.loadsAt_vmem h_S1x512x512))
  let s ← Prog.lift (.load rsM (Rect.unit (s := S7x8x128) ![6, 0, 0] S1x1x1.size (inbS1 (by decide))).toLoadRect (View.loadsAt_vmem h_S1x1x1))
  tile 0 (by decide) q s
  tile 1 (by decide) q s
  tile 2 (by decide) q s
  tile 3 (by decide) q s
/-- The waits for the departure of a block and of its scale. -/
def drainStep (i : ℕ) (h : i < 7) : KProg (F := F) := do
  Prog.lift (.waitDma2 (qSendSem i h) (coS i h) (xqS i h) ((coMw.wordExact_slice rfl _ (wordsQ h)).reshape _ _) ((xqMw.wordExact_slice rfl _ (wordsQ h)).reshape _ _))
  Prog.lift (.waitDma2 (sSendSem i h) (rsS i h) (qsS i h) ((View.wordExact_bits rfl).reshape _ _) ((View.wordExact_bits rfl).reshape _ _))
/-- The wait for an output tile. -/
def yWait (h : ℕ) (hh : h < 4) : KProg (F := F) :=
  Prog.lift (.waitDma2 (ySem h hh) (yS h hh) (outS h hh) ((yMw.wordExact_slice rfl _ (wordsY hh)).reshape _ _) (outMw.wordExact_slice rfl _ (wordsOut hh)))
/-- The copies in. -/
def copies (d : Dev nD) : KProg (F := F) := do
  xCopy d 1 (by decide)
  xCopy d 2 (by decide)
  xCopy d 3 (by decide)
  xCopy d 4 (by decide)
  xCopy d 5 (by decide)
  xCopy d 6 (by decide)
  xCopy d 7 (by decide)
  xCopy d 0 (by decide)
  wCopy d 0 (by decide) 0 (by decide)
  wCopy d 1 (by decide) 1 (by decide)
  wCopy d 2 (by decide) 2 (by decide)
/-- The seven signals and the wait for the seven that come in. -/
def barrier (d : Dev nD) : KProg (F := F) := do
  semSignalWord (⟨k0_dev1 d, k0_dev1_lt d⟩ : Dev nD) barSem 1#32
  semSignalWord (⟨k0_dev2 d, k0_dev2_lt d⟩ : Dev nD) barSem 1#32
  semSignalWord (⟨k0_dev3 d, k0_dev3_lt d⟩ : Dev nD) barSem 1#32
  semSignalWord (⟨k0_dev4 d, k0_dev4_lt d⟩ : Dev nD) barSem 1#32
  semSignalWord (⟨k0_dev5 d, k0_dev5_lt d⟩ : Dev nD) barSem 1#32
  semSignalWord (⟨k0_dev6 d, k0_dev6_lt d⟩ : Dev nD) barSem 1#32
  semSignalWord (⟨k0_dev7 d, k0_dev7_lt d⟩ : Dev nD) barSem 1#32
  semWaitWord barSem 7#32
/-- The seven send steps. -/
def sends (d : Dev nD) : KProg (F := F) := do
  sendStep d ⟨k0_dev8 d, k0_dev8_lt d⟩ ⟨k0_dev9 d, k0_dev9_lt d⟩ 0 (by decide)
  sendStep d ⟨k0_dev10 d, k0_dev10_lt d⟩ ⟨k0_dev11 d, k0_dev11_lt d⟩ 1 (by decide)
  sendStep d ⟨k0_dev12 d, k0_dev12_lt d⟩ ⟨k0_dev13 d, k0_dev13_lt d⟩ 2 (by decide)
  sendStep d ⟨k0_dev14 d, k0_dev14_lt d⟩ ⟨k0_dev15 d, k0_dev15_lt d⟩ 3 (by decide)
  sendStep d ⟨k0_dev16 d, k0_dev16_lt d⟩ ⟨k0_dev17 d, k0_dev17_lt d⟩ 4 (by decide)
  sendStep d ⟨k0_dev18 d, k0_dev18_lt d⟩ ⟨k0_dev19 d, k0_dev19_lt d⟩ 5 (by decide)
  sendStep d ⟨k0_dev20 d, k0_dev20_lt d⟩ ⟨k0_dev21 d, k0_dev21_lt d⟩ 6 (by decide)
/-- The own product and the six receive steps, with the copies of the remaining row blocks between them. -/
def recvs (d : Dev nD) : KProg (F := F) := do
  ownStep d
  wCopy d 3 (by decide) 0 (by decide)
  recvStep d 0 (by decide) 1 (by decide)
  wCopy d 4 (by decide) 1 (by decide)
  recvStep d 1 (by decide) 2 (by decide)
  wCopy d 5 (by decide) 2 (by decide)
  recvStep d 2 (by decide) 0 (by decide)
  wCopy d 6 (by decide) 0 (by decide)
  recvStep d 3 (by decide) 1 (by decide)
  wCopy d 7 (by decide) 1 (by decide)
  recvStep d 4 (by decide) 2 (by decide)
  recvStep d 5 (by decide) 0 (by decide)
/-- The fourteen waits for the departures and the four for the output. -/
def drains : KProg (F := F) := do
  drainStep 0 (by decide)
  drainStep 1 (by decide)
  drainStep 2 (by decide)
  drainStep 3 (by decide)
  drainStep 4 (by decide)
  drainStep 5 (by decide)
  drainStep 6 (by decide)
  yWait 0 (by decide)
  yWait 1 (by decide)
  yWait 2 (by decide)
  yWait 3 (by decide)
/-- The whole kernel. -/
def kernel : KProg (F := F) := do
  let d : Dev nD ← Prog.lift .deviceId
  copies d
  barrier d
  sends d
  recvs d
  lastStep d
  drains

set_option maxRecDepth 65536 in
/-- The printed program is the sequence of steps. -/
theorem body_eq (t : Fin cfg0.N) : bodyAt0 (F := F) t = kernel := by
  chain_rfl

end Cert.KernelIdeal.Run
end
-- ==== Proof.Protocol.lean ====
/-
# The protocol: who pays what onto which semaphore, and what each landing hands over

On device `c`: the barrier cell takes one unit from each of the seven other devices; duty `i` of it is paid by
`bk i c`, and hands `c` the two landing slots of `bk i c` that `c` will write (slot `6 - i`, since `bk i c` is
`fw (6 - i) c`). Step `i` of device `c` sends to `fw i c`; the landing hands `fw i c` its slot `i` holding the
quantised block and its scale, the departure hands `c` its own send slot back.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 7)
abbrev UU : Type := UR sig nD τ × UB × Counters
local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := (Emb.inl : Emb UB (UB × Counters)).trans embR

/-! ## The cells -/

abbrev barCell (c : Dev nD) : GSem nD τ sig := ((c : Thread nD τ), .reg barSem)
abbrev dCell (c : Dev nD) (q : DmaSem sig) : GSem nD τ sig := ((c : Thread nD τ), .dma q)

omit [FloatOps F] [Named F] in
theorem qSendSem_val {i : ℕ} (h : i < 7) : (qSendSem i h).val = 11 + i :=
  (by decide : ∀ j : Fin 7, (qSendSem j.val j.isLt).val = 11 + j.val) ⟨i, h⟩
omit [FloatOps F] [Named F] in
theorem sSendSem_val {i : ℕ} (h : i < 7) : (sSendSem i h).val = 18 + i :=
  (by decide : ∀ j : Fin 7, (sSendSem j.val j.isLt).val = 18 + j.val) ⟨i, h⟩
omit [FloatOps F] [Named F] in
theorem qRecvSem_val {i : ℕ} (h : i < 7) : (qRecvSem i h).val = 25 + i :=
  (by decide : ∀ j : Fin 7, (qRecvSem j.val j.isLt).val = 25 + j.val) ⟨i, h⟩
omit [FloatOps F] [Named F] in
theorem sRecvSem_val {i : ℕ} (h : i < 7) : (sRecvSem i h).val = 32 + i :=
  (by decide : ∀ j : Fin 7, (sRecvSem j.val j.isLt).val = 32 + j.val) ⟨i, h⟩

/-- The credit of a quantised block and of a scale tile. -/
def NQ : ℕ := (coS 0 (by decide)).view.dmaCredit
def NS : ℕ := (rsS 0 (by decide)).view.dmaCredit
theorem NQ_pos : 0 < NQ := View.dmaCredit_pos _ (by decide)
theorem NS_pos : 0 < NS := View.dmaCredit_pos _ (by decide)

/-! ## Contents -/

variable (m : (ℓ : Loc nD τ sig) → Buf (Elt F) ℓ)

/-- The row block of its first argument that device `c` reads at step `i`. -/
def xBlk (c : Dev nD) (i : ℕ) (h : i < 8) : Vec F S1x512x512 .f32 :=
  shapeCast S1x512x512 ((xRow c i h).view.read (Elt F) (m ((c : Thread nD τ).loc main_arg0))) shapeCasts_S512x512_S1x512x512
/-- The row block of its second argument that device `c` reads at step `i`. -/
def wBlk (c : Dev nD) (i : ℕ) (h : i < 8) : Vec F S1x512x2048 .f32 :=
  shapeCast S1x512x2048 ((wRow c i h).view.read (Elt F) (m ((c : Thread nD τ).loc main_arg1))) (by decide)

/-- A slot of a send or landing buffer of device `c`, at any contents. -/
def xqAny (c : Dev nD) (i : ℕ) (h : i < 7) : sProp 𝕄 :=
  iprop(∃ f, xqM.view.loc (c : Thread nD τ) ↦[xqM.view.setOn (qR i h).set]{fullShare} f)
def qsAny (c : Dev nD) (i : ℕ) (h : i < 7) : sProp 𝕄 :=
  iprop(∃ f, qsM.view.loc (c : Thread nD τ) ↦[qsM.view.setOn (sR i h).set]{fullShare} f)
def coAny (c : Dev nD) (i : ℕ) (h : i < 7) : sProp 𝕄 :=
  iprop(∃ f, coM.view.loc (c : Thread nD τ) ↦[coM.view.setOn (qR i h).set]{fullShare} f)
def rsAny (c : Dev nD) (i : ℕ) (h : i < 7) : sProp 𝕄 :=
  iprop(∃ f, rsM.view.loc (c : Thread nD τ) ↦[rsM.view.setOn (sR i h).set]{fullShare} f)
/-- A landing slot of device `c` that reads the value `v`. -/
def coHas (c : Dev nD) (i : ℕ) (h : i < 7) (v : Vec F S1x512x512 .i8) : sProp 𝕄 :=
  iprop(∃ f, ⌜coM.view.readAt (Elt F) (qR i h).toLoadRect f = v⌝ ∗ coM.view.loc (c : Thread nD τ) ↦[coM.view.setOn (qR i h).set]{fullShare} f)
def rsHas (c : Dev nD) (i : ℕ) (h : i < 7) (v : Vec F S1x8x128 .f32) : sProp 𝕄 :=
  iprop(∃ f, ⌜rsM.view.readAt (Elt F) (sR i h).toLoadRect f = v⌝ ∗ rsM.view.loc (c : Thread nD τ) ↦[rsM.view.setOn (sR i h).set]{fullShare} f)

/-- What the landings of step `i` hold on device `c`. -/
def gotQ (c : Dev nD) (i : ℕ) (h : i < 7) : Vec F S1x512x512 .i8 := quant (xBlk m (bk i c) (i + 1) (Nat.succ_lt_succ h))
def gotS (c : Dev nD) (i : ℕ) (h : i < 7) : Vec F S1x8x128 .f32 := scale (xBlk m (bk i c) (i + 1) (Nat.succ_lt_succ h))

/-- The landing slots that device `c`'s signal number `i` gives to device `fw i c`. -/
def slots (c : Dev nD) (i : ℕ) (h : i < 7) : sProp 𝕄 := iprop(coAny c (6 - i) (by omega) ∗ rsAny c (6 - i) (by omega))

/-- The landing slots with their contents. -/
def coGot (c : Dev nD) (i : ℕ) (h : i < 7) : sProp 𝕄 := coHas c i h (gotQ m c i h)
def rsGot (c : Dev nD) (i : ℕ) (h : i < 7) : sProp 𝕄 := rsHas c i h (gotS m c i h)

/-- The payload of the DMA semaphore number `k` of device `c`. -/
def payAt (c : Dev nD) (k : ℕ) : sProp 𝕄 :=
  if h : 11 ≤ k ∧ k < 18 then xqAny c (k - 11) (by omega)
  else if h : 18 ≤ k ∧ k < 25 then qsAny c (k - 18) (by omega)
  else if h : 25 ≤ k ∧ k < 32 then coGot m c (k - 25) (by omega)
  else if h : 32 ≤ k ∧ k < 39 then rsGot m c (k - 32) (by omega)
  else iprop(emp)

omit [FloatOps F] [Named F] in
instance xqAny_storable (c : Dev nD) (i h) : BI.Storable (upEmb : UEmb _ 𝕄) (xqAny (F := F) c i h) := by unfold xqAny; infer_instance
omit [FloatOps F] [Named F] in
instance qsAny_storable (c : Dev nD) (i h) : BI.Storable (upEmb : UEmb _ 𝕄) (qsAny (F := F) c i h) := by unfold qsAny; infer_instance
omit [FloatOps F] [Named F] in
instance coAny_storable (c : Dev nD) (i h) : BI.Storable (upEmb : UEmb _ 𝕄) (coAny (F := F) c i h) := by unfold coAny; infer_instance
omit [FloatOps F] [Named F] in
instance rsAny_storable (c : Dev nD) (i h) : BI.Storable (upEmb : UEmb _ 𝕄) (rsAny (F := F) c i h) := by unfold rsAny; infer_instance
omit [FloatOps F] [Named F] in
instance coHas_storable (c : Dev nD) (i h v) : BI.Storable (upEmb : UEmb _ 𝕄) (coHas (F := F) c i h v) := by unfold coHas; infer_instance
omit [FloatOps F] [Named F] in
instance rsHas_storable (c : Dev nD) (i h v) : BI.Storable (upEmb : UEmb _ 𝕄) (rsHas (F := F) c i h v) := by unfold rsHas; infer_instance
omit [FloatOps F] [Named F] in
instance slots_storable (c : Dev nD) (i h) : BI.Storable (upEmb : UEmb _ 𝕄) (slots (F := F) c i h) := by unfold slots; infer_instance
instance coGot_storable (c : Dev nD) (i h) : BI.Storable (upEmb : UEmb _ 𝕄) (coGot (F := F) m c i h) := by unfold coGot; infer_instance
instance rsGot_storable (c : Dev nD) (i h) : BI.Storable (upEmb : UEmb _ 𝕄) (rsGot (F := F) m c i h) := by unfold rsGot; infer_instance
instance payAt_storable (c : Dev nD) (k) : BI.Storable (upEmb : UEmb _ 𝕄) (payAt (F := F) m c k) := by
  unfold payAt; (repeat' split) <;> infer_instance

/-! ## The schedule -/

/-- The duties of a cell at its only round. -/
def dutiesAt (g : GSem nD τ sig) : Finset (Fin 7) :=
  if g.1.2 = .tc then
    match g.2 with
    | .reg s => if s = barSem then Finset.univ else ∅
    | .dma q => if 11 ≤ q.val ∧ q.val < 39 then {0} else ∅
  else ∅
/-- The units of each. -/
def amountAt (s : SemLoc sig) : ℕ :=
  match s with
  | .reg _ => 1
  | .dma q => if (11 ≤ q.val ∧ q.val < 18) ∨ (25 ≤ q.val ∧ q.val < 32) then NQ else NS
/-- What each hands over. -/
def payloadAt (g : GSem nD τ sig) (d : Fin 7) : sProp 𝕄 :=
  match g.2 with
  | .reg _ => slots (bk d.val g.1.1) d.val d.isLt
  | .dma q => payAt m g.1.1 q.val

/-- One round of each cell. -/
def ringRd : Rounds.Schedule (GSem nD τ sig) (Fin 7) 𝕄 where
  duties g r := if r = 0 then dutiesAt g else ∅
  unitless _ := False
  amount g _ _ := amountAt g.2
  payload g _ d := payloadAt m g d
  amount_pos g _ _ _ := by
    rcases g with ⟨t, s | q⟩
    · exact Nat.one_pos
    · show 0 < if _ then NQ else NS
      split
      · exact NQ_pos
      · exact NS_pos

instance ringRd_payload_storable (g : GSem nD τ sig) (r : ℕ) (d : Fin 7) :
    BI.Storable (upEmb : UEmb _ 𝕄) ((ringRd (F := F) m).payload g r d) := by
  show BI.Storable upEmb (payloadAt m g d)
  rcases g with ⟨t, s | q⟩
  · show BI.Storable upEmb (slots (bk d.val t.1) d.val d.isLt); infer_instance
  · show BI.Storable upEmb (payAt m t.1 q.val); infer_instance

section Sched
variable (c : Dev nD)

theorem duties_bar : (ringRd (F := F) m).duties (barCell c) 0 = Finset.univ := by
  show (if 0 = 0 then dutiesAt (barCell c) else ∅) = _
  rw [if_pos rfl]; unfold dutiesAt; rw [if_pos rfl]; exact if_pos rfl
theorem duties_dma (q : DmaSem sig) (h : 11 ≤ q.val ∧ q.val < 39) : (ringRd (F := F) m).duties (dCell c q) 0 = {0} := by
  show (if 0 = 0 then dutiesAt (dCell c q) else ∅) = _
  rw [if_pos rfl]; unfold dutiesAt; rw [if_pos rfl]; exact if_pos h
theorem duties_later (g : GSem nD τ sig) : ∀ r, 1 ≤ r → (ringRd (F := F) m).duties g r = ∅ := fun r hr => if_neg (by omega)
theorem amount_bar (d : Fin 7) : (ringRd (F := F) m).amount (barCell c) 0 d = 1 := rfl
theorem amount_q (q : DmaSem sig) (h : (11 ≤ q.val ∧ q.val < 18) ∨ (25 ≤ q.val ∧ q.val < 32)) (d : Fin 7) :
    (ringRd (F := F) m).amount (dCell c q) 0 d = NQ := if_pos h
theorem amount_s (q : DmaSem sig) (h : ¬ ((11 ≤ q.val ∧ q.val < 18) ∨ (25 ≤ q.val ∧ q.val < 32))) (d : Fin 7) :
    (ringRd (F := F) m).amount (dCell c q) 0 d = NS := if_neg h
theorem payload_bar (d : Fin 7) : (ringRd (F := F) m).payload (barCell c) 0 d = slots (bk d.val c) d.val d.isLt := rfl
theorem payload_dma (q : DmaSem sig) (d : Fin 7) : (ringRd (F := F) m).payload (dCell c q) 0 d = payAt m c q.val := rfl

theorem payAt_qSend {i : ℕ} (h : i < 7) : payAt m c (qSendSem i h).val = xqAny (F := F) c i h := by
  rw [qSendSem_val]; unfold payAt; rw [dif_pos ⟨by omega, by omega⟩]; simp only [Nat.add_sub_cancel_left]
theorem payAt_sSend {i : ℕ} (h : i < 7) : payAt m c (sSendSem i h).val = qsAny (F := F) c i h := by
  rw [sSendSem_val]; unfold payAt; rw [dif_neg (by omega), dif_pos ⟨by omega, by omega⟩]; simp only [Nat.add_sub_cancel_left]
theorem payAt_qRecv {i : ℕ} (h : i < 7) : payAt m c (qRecvSem i h).val = coGot m c i h := by
  rw [qRecvSem_val]; unfold payAt; rw [dif_neg (by omega), dif_neg (by omega), dif_pos ⟨by omega, by omega⟩]; simp only [Nat.add_sub_cancel_left]
theorem payAt_sRecv {i : ℕ} (h : i < 7) : payAt m c (sRecvSem i h).val = rsGot m c i h := by
  rw [sRecvSem_val]; unfold payAt; rw [dif_neg (by omega), dif_neg (by omega), dif_neg (by omega), dif_pos ⟨by omega, by omega⟩]
  simp only [Nat.add_sub_cancel_left]

theorem expect_bar : (ringRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_dma (q : DmaSem sig) (h : 11 ≤ q.val ∧ q.val < 39) : (ringRd (F := F) m).expect (dCell c q) 0 = amountAt (.dma q) := by
  unfold Schedule.expect Schedule.amountOf; rw [duties_dma m c q h, Finset.sum_singleton]; rfl

/-- The rest of a transfer cell's round. -/
theorem rest_dma (q : DmaSem sig) (h : 11 ≤ q.val ∧ q.val < 39) :
    bigSep ((ringRd (F := F) m).duties (dCell c q) 0 \ ∅) (fun d => (ringRd (F := F) m).payload (dCell c q) 0 d) = payAt m c q.val := by
  rw [Finset.sdiff_empty, duties_dma m c q h, bigSep_singleton, payload_dma]
/-- The rest of the barrier's: every other device's two slots. -/
theorem rest_bar : bigSep ((ringRd (F := F) m).duties (barCell c) 0 \ ∅) (fun d => (ringRd (F := F) m).payload (barCell c) 0 d)
    = bigSep Finset.univ (fun d : Fin 7 => slots (F := F) (bk d.val c) d.val d.isLt) := by
  rw [Finset.sdiff_empty, duties_bar]; rfl

end Sched

/-! ## What each device owes; the levels -/

/-- The tallies of the last `n` send steps. -/
def owedSends (c : Dev nD) : ℕ → CellTallies nD τ sig Bool
  | 0 => 0
  | n + 1 => if h : n < 7 then
      (owedSends c n + tallyAt (dCell (fw (6 - n) c) (sRecvSem (6 - n) (by omega))) true NS)
        + tallyAt (dCell (fw (6 - n) c) (qRecvSem (6 - n) (by omega))) true NQ
    else 0
/-- Those of all the sends and of the last `n` signals. -/
def owedBar (c : Dev nD) : ℕ → CellTallies nD τ sig Bool
  | 0 => owedSends c 7
  | n + 1 => owedBar c n + tallyAt (barCell (fw (6 - n) c)) true 1

def L (g : GSem nD τ sig) : Finset Bool := if g.1.2 = .tc then Finset.univ else ∅
/-- Waits on a device's own transfers and departures lie at 0, barrier cells at 1, landing cells at 2. -/
def lv (g : GSem nD τ sig) (b : Bool) : ℕ := if b = false then 0 else match g.2 with | .reg _ => 1 | .dma _ => 2

theorem L_tc (c : Dev nD) (sm : SemLoc sig) : L ((c : Thread nD τ), sm) = Finset.univ := if_pos rfl
theorem L_of_ne (g : GSem nD τ sig) (h : g.1.2 ≠ .tc) : L g = ∅ := if_neg h

/-- What the sends owe lies on landing cells, at `true`. -/
theorem owedSends_pos {c : Dev nD} {n : ℕ} {g : GSem nD τ sig} {b : Bool} (h : 0 < owedSends c n g b) :
    (∃ d q, g = dCell d q) ∧ b = true := by
  induction n with
  | zero => exact absurd h (Nat.lt_irrefl 0)
  | succ n ih =>
    unfold owedSends at h
    split at h
    · rw [Pi.add_apply, Finsupp.add_apply, Pi.add_apply, Finsupp.add_apply, tallyAt_apply, tallyAt_apply] at h
      by_contra hn
      have h1 : ¬ (0 < owedSends c n g b) := fun h' => hn (ih h')
      rw [if_neg (fun h' => hn ⟨⟨_, _, h'.1⟩, h'.2⟩), if_neg (fun h' => hn ⟨⟨_, _, h'.1⟩, h'.2⟩)] at h
      omega
    · exact absurd h (Nat.lt_irrefl 0)
/-- What the signals owe lies on barrier cells, at `true`. -/
theorem owedBar_pos {c : Dev nD} {n : ℕ} {g : GSem nD τ sig} {b : Bool} (h : 0 < owedBar c n g b) :
    ((∃ d q, g = dCell d q) ∨ ∃ d, g = barCell d) ∧ b = true := by
  induction n with
  | zero => exact ⟨Or.inl (owedSends_pos h).1, (owedSends_pos h).2⟩
  | succ n ih =>
    unfold owedBar at h
    rw [Pi.add_apply, Finsupp.add_apply, tallyAt_apply] at h
    by_contra hn
    have h1 : ¬ (0 < owedBar c n g b) := fun h' => hn (ih h')
    rw [if_neg (fun h' => hn ⟨Or.inr ⟨_, h'.1⟩, h'.2⟩)] at h
    omega

omit [FloatOps F] [Named F] in
/-- A wait at `false` lies below everything owed. -/
theorem mayWait_low (c : Dev nD) (sm : SemLoc sig) (n : ℕ) :
    (levAts L lv : sProp 𝕄) ⊢ MayWait (c : Thread nD τ) sm false (owedBar c n) :=
  MayOwe.of_cut (L := L) (lev := lv) 0 (fun p hp => by rw [Finset.mem_singleton.mp hp, L_tc]; exact Finset.mem_univ _)
    (fun g u hg => by rcases (owedBar_pos hg).1 with ⟨d, q, rfl⟩ | ⟨d, rfl⟩ <;> exact Finset.mem_univ _)
    (fun p hp => by rw [Finset.mem_singleton.mp hp]; exact Nat.le_refl 0)
    (fun g u hg => by
      obtain ⟨h, rfl⟩ := owedBar_pos hg
      rcases h with ⟨d, q, rfl⟩ | ⟨d, rfl⟩
      · exact Nat.zero_lt_two
      · exact Nat.one_pos)
omit [FloatOps F] [Named F] in
theorem mayWait_low' (c : Dev nD) (sm : SemLoc sig) (n : ℕ) :
    (levAts L lv : sProp 𝕄) ⊢ MayWait (c : Thread nD τ) sm false (owedSends c n) :=
  MayOwe.of_cut (L := L) (lev := lv) 0 (fun p hp => by rw [Finset.mem_singleton.mp hp, L_tc]; exact Finset.mem_univ _)
    (fun g u hg => by obtain ⟨d, q, rfl⟩ := (owedSends_pos hg).1; exact Finset.mem_univ _)
    (fun p hp => by rw [Finset.mem_singleton.mp hp]; exact Nat.le_refl 0)
    (fun g u hg => by
      obtain ⟨⟨d, q, rfl⟩, rfl⟩ := owedSends_pos hg
      exact Nat.zero_lt_two)
omit [FloatOps F] [Named F] in
/-- At its barrier wait a device owes landings only. -/
theorem mayWait_bar (c : Dev nD) : (levAts L lv : sProp 𝕄) ⊢ MayWait (c : Thread nD τ) (.reg barSem) true (owedSends c 7) :=
  MayOwe.of_cut (L := L) (lev := lv) 1 (fun p hp => by rw [Finset.mem_singleton.mp hp, L_tc]; exact Finset.mem_univ _)
    (fun g u hg => by obtain ⟨d, q, rfl⟩ := (owedSends_pos hg).1; exact Finset.mem_univ _)
    (fun p hp => by rw [Finset.mem_singleton.mp hp]; exact Nat.le_refl 1)
    (fun g u hg => by
      obtain ⟨⟨d, q, rfl⟩, rfl⟩ := owedSends_pos hg
      exact Nat.one_lt_two)

/-- Step `i` pays its scale's landing and its block's. -/
theorem owedSends_step {c : Dev nD} {i : ℕ} (h : i < 7) :
    owedSends c (7 - i) = (owedSends c (6 - i) + tallyAt (dCell (fw i c) (sRecvSem i h)) true NS) + tallyAt (dCell (fw i c) (qRecvSem i h)) true NQ := by
  have e : 7 - i = (6 - i) + 1 := by omega
  rw [e]
  show (if h : 6 - i < 7 then _ else 0) = _
  rw [dif_pos (by omega)]
  have e' : 6 - (6 - i) = i := by omega
  simp only [e']
/-- Signal `i` pays one unit. -/
theorem owedBar_step {c : Dev nD} {i : ℕ} (h : i < 7) :
    owedBar c (7 - i) = owedBar c (6 - i) + tallyAt (barCell (fw i c)) true 1 := by
  have e : 7 - i = (6 - i) + 1 := by omega
  rw [e]
  show owedBar c (6 - i) + tallyAt (barCell (fw (6 - (6 - i)) c)) true 1 = _
  have e' : 6 - (6 - i) = i := by omega
  rw [e']

end Cert.KernelIdeal.Run
end
-- ==== Proof.Local.lean ====
/-
# The steps that stay on the device

What each local step does to a device's own slots, at a symbolic step number: a copy in and its wait, the
quantisation of a block. A continuation stands after every step.
-/
module

public import proofs.«01_k».proof.Proof.Protocol
public import Idealize.ShloMosaic.Lib.Pipeline.Value

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

/-- The program `e` on device `c`. -/
abbrev Does (c : Dev nD) (e : KProg (F := F)) (Kt : PUnit → sProp 𝕄) : sProp 𝕄 :=
  wp frame (wpE (defs₀ (F := F)) Variants.none c none) Set.univ e Kt

/-- What device `c` owes, whatever it has waited for. -/
def owesE (c : Dev nD) (O : CellTallies nD τ sig Bool) : sProp 𝕄 := iprop(∃ W, owes (c : Thread nD τ) O W)

/-! ## Slots -/

/-- After a write through a squeezed slot, the slot's rectangle reads what was written. -/
theorem readAt_write_slot {κ : Kind} {sp : Space} {s s' : Shape} {e : EltTy} (M : Memref sig κ sp s e) (r : Rect s)
    (hr : ∀ a, r.stride a = 1) (hq : r.shape.Squeezes s') (hc : s'.ShapeCasts r.shape) (f : M.view.ty.Contents (Elt F)) (w : s'.Idx → Elt F e) :
    M.view.readAt (Elt F) r.toLoadRect (((M.slice r hr).squeeze s' hq).view.write (Elt F) f w Finset.univ) = shapeCast r.shape w hc := by
  have e : shapeCast s' (M.view.readAt (Elt F) r.toLoadRect (((M.slice r hr).squeeze s' hq).view.write (Elt F) f w Finset.univ)) hc.symm = w :=
    View.read_write_univ (v := ((M.slice r hr).squeeze s' hq).view) f w
  exact (shapeCast_shapeCast _ hc.symm hc).symm.trans (congrArg (fun z => shapeCast r.shape z hc) e)

variable (m : (ℓ : Loc nD τ sig) → Buf (Elt F) ℓ)

def xAny (c : Dev nD) (i : ℕ) (h : i < 8) : sProp 𝕄 :=
  iprop(∃ f, xfM.view.loc (c : Thread nD τ) ↦[xfM.view.setOn (xfR i h).set]{fullShare} f)
def xHas (c : Dev nD) (i : ℕ) (h : i < 8) (v : Vec F S1x512x512 .f32) : sProp 𝕄 :=
  iprop(∃ f, ⌜xfM.view.readAt (Elt F) (xfR i h).toLoadRect f = v⌝ ∗ xfM.view.loc (c : Thread nD τ) ↦[xfM.view.setOn (xfR i h).set]{fullShare} f)
/-- The share of the first argument that the copy of step `i` reads from. -/
def xTok (c : Dev nD) (i : ℕ) : sProp 𝕄 :=
  xM.view.loc (c : Thread nD τ) ↦{Transfers.shareTokN fullShare i} m ((c : Thread nD τ).loc main_arg0)
/-- The copy of step `i` under way. -/
def xFly (c : Dev nD) (i : ℕ) (h : i < 8) : sProp 𝕄 :=
  iprop(∃ f, ⌜xfM.view.readAt (Elt F) (xfR i h).toLoadRect f = xBlk m c i h⌝ ∗
    Transfers.Flight countersEmb (c : Thread nD τ) (SemLoc.dma (xSem i h)) false 32768
      iprop(((xfS i h).view.loc (c : Thread nD τ) ↦[(xfS i h).view.set]{fullShare} f)
        ∗ ((xRow c i h).view.loc (c : Thread nD τ) ↦[(xRow c i h).view.set]{Transfers.shareTokN fullShare i} m ((c : Thread nD τ).loc main_arg0))))

theorem xfS_set (i : ℕ) (h : i < 8) : (xfS i h).view.set = xfM.view.setOn (xfR i h).set :=
  (Memref.set_view_squeeze _ _).trans (View.set_slice _ _)

theorem xCopy_step (c : Dev nD) (i : ℕ) (h : i < 8) {k : PUnit → KProg (F := F)} {Kt : PUnit → sProp 𝕄} :
    iprop(xAny c i h ∗ xTok m c i ∗ semVal (dCell c (xSem i h)) 0)
      ⊢ iprop((xFly m c i h -∗ Does c (k ⟨⟩) Kt) -∗ Does c (xCopy c i h >>= k) Kt) := by
  unfold xCopy xfS xRow xAny xTok
  unfold Does
  iintro ⟨⟨%f, Hx⟩, Ht, Hs⟩ Hk
  sl_exec
  iapply Hk
  unfold xFly
  iexists _
  isplitr
  rotate_left
  · iexact Hs
  ipureintro
  exact readAt_write_slot _ _ _ _ _ _ _

theorem xWait_step (c : Dev nD) (i : ℕ) (h : i < 8) (O : CellTallies nD τ sig Bool) {k : PUnit → KProg (F := F)} {Kt : PUnit → sProp 𝕄} :
    iprop(xFly m c i h ∗ owesE c O ∗ Transfers.MayWaits (c : Thread nD τ) false O)
      ⊢ iprop(((xHas c i h (xBlk m c i h) ∗ semVal (dCell c (xSem i h)) 0 ∗ owesE c O) -∗ Does c (k ⟨⟩) Kt) -∗ Does c (xWait c i h >>= k) Kt) := by
  unfold xWait xFly owesE
  unfold Does
  iintro ⟨⟨%f, %hf, Hs⟩, ⟨%W, HO⟩, #Hmw⟩ Hk
  sl_exec
  iapply Hk
  isplitl [Hs_dst]
  · unfold xHas
    iexists f
    isplitr; · ipureintro; exact hf
    rw [← xfS_set]; iexact Hs_dst
  isplitl [Hs]; · iexact Hs
  iexists _; iexact HO

def xqHas (c : Dev nD) (i : ℕ) (h : i < 7) (v : Vec F S1x512x512 .i8) : sProp 𝕄 :=
  iprop(∃ f, ⌜xqM.view.readAt (Elt F) (qR i h).toLoadRect f = v⌝ ∗ xqM.view.loc (c : Thread nD τ) ↦[xqM.view.setOn (qR i h).set]{fullShare} f)
def qsHas (c : Dev nD) (i : ℕ) (h : i < 7) (v : Vec F S1x8x128 .f32) : sProp 𝕄 :=
  iprop(∃ f, ⌜qsM.view.readAt (Elt F) (sR i h).toLoadRect f = v⌝ ∗ qsM.view.loc (c : Thread nD τ) ↦[qsM.view.setOn (sR i h).set]{fullShare} f)

theorem quantise_step (c : Dev nD) (i : ℕ) (h : i < 7) (v : Vec F S1x512x512 .f32) {k : PUnit → KProg (F := F)} {Kt : PUnit → sProp 𝕄} :
    iprop(xHas c (i + 1) (Nat.succ_lt_succ h) v ∗ xqAny c i h ∗ qsAny c i h)
      ⊢ iprop(((xAny c (i + 1) (Nat.succ_lt_succ h) ∗ xqHas c i h (quant v) ∗ qsHas c i h (scale v)) -∗ Does c (k ⟨⟩) Kt) -∗ Does c (quantise i h >>= k) Kt) := by
  unfold quantise xHas xqAny qsAny
  unfold Does
  iintro ⟨⟨%f, %hf, Hx⟩, ⟨%fq, Hq⟩, ⟨%fs, Hs⟩⟩ Hk
  sl_exec
  iapply Hk
  unfold xAny xqHas qsHas
  isplitl [Hx]; · iexists _; iexact Hx
  isplitl [Hq]
  · iexists _
    isplitr
    rotate_left
    · iexact Hq
    ipureintro
    exact View.read_write_univ _ _
  · iexists _
    isplitr
    rotate_left
    · iexact Hs
    ipureintro
    exact View.read_write_univ _ _

/-! ## The second argument's slots -/

def wAny (c : Dev nD) (j : ℕ) (hj : j < 3) : sProp 𝕄 :=
  iprop(∃ f, wbM.view.loc (c : Thread nD τ) ↦[wbM.view.setOn (wbR j hj).set]{fullShare} f)
def wHas (c : Dev nD) (j : ℕ) (hj : j < 3) (v : Vec F S1x512x2048 .f32) : sProp 𝕄 :=
  iprop(∃ f, ⌜wbM.view.readAt (Elt F) (wbR j hj).toLoadRect f = v⌝ ∗ wbM.view.loc (c : Thread nD τ) ↦[wbM.view.setOn (wbR j hj).set]{fullShare} f)
/-- The share of the second argument that the copy of step `i` reads from. -/
def wTok (c : Dev nD) (i : ℕ) : sProp 𝕄 :=
  wM.view.loc (c : Thread nD τ) ↦{Transfers.shareTokN fullShare i} m ((c : Thread nD τ).loc main_arg1)
/-- The copy of row block `i` into slot `j` under way. -/
def wFly (c : Dev nD) (i : ℕ) (h : i < 8) (j : ℕ) (hj : j < 3) : sProp 𝕄 :=
  iprop(∃ f, ⌜wbM.view.readAt (Elt F) (wbR j hj).toLoadRect f = wBlk m c i h⌝ ∗
    Transfers.Flight countersEmb (c : Thread nD τ) (SemLoc.dma (wSem j hj)) false 131072
      iprop(((wbS j hj).view.loc (c : Thread nD τ) ↦[(wbS j hj).view.set]{fullShare} f)
        ∗ ((wRow c i h).view.loc (c : Thread nD τ) ↦[(wRow c i h).view.set]{Transfers.shareTokN fullShare i} m ((c : Thread nD τ).loc main_arg1))))

theorem wbS_set (j : ℕ) (hj : j < 3) : (wbS j hj).view.set = wbM.view.setOn (wbR j hj).set :=
  (Memref.set_view_squeeze _ _).trans (View.set_slice _ _)

theorem wCopy_step (c : Dev nD) (i : ℕ) (h : i < 8) (j : ℕ) (hj : j < 3) {k : PUnit → KProg (F := F)} {Kt : PUnit → sProp 𝕄} :
    iprop(wAny c j hj ∗ wTok m c i ∗ semVal (dCell c (wSem j hj)) 0)
      ⊢ iprop((wFly m c i h j hj -∗ Does c (k ⟨⟩) Kt) -∗ Does c (wCopy c i h j hj >>= k) Kt) := by
  unfold wCopy wbS wRow wAny wTok
  unfold Does
  iintro ⟨⟨%f, Hx⟩, Ht, Hs⟩ Hk
  sl_exec
  iapply Hk
  unfold wFly
  iexists _
  isplitr
  rotate_left
  · iexact Hs
  ipureintro
  exact readAt_write_slot _ _ _ _ _ _ _

theorem wWait_step (c : Dev nD) (i : ℕ) (h : i < 8) (j : ℕ) (hj : j < 3) (O : CellTallies nD τ sig Bool) {k : PUnit → KProg (F := F)} {Kt : PUnit → sProp 𝕄} :
    iprop(wFly m c i h j hj ∗ owesE c O ∗ Transfers.MayWaits (c : Thread nD τ) false O)
      ⊢ iprop(((wHas c j hj (wBlk m c i h) ∗ semVal (dCell c (wSem j hj)) 0 ∗ owesE c O) -∗ Does c (k ⟨⟩) Kt) -∗ Does c (wWait c i h j hj >>= k) Kt) := by
  unfold wWait wFly owesE
  unfold Does
  iintro ⟨⟨%f, %hf, Hs⟩, ⟨%W, HO⟩, #Hmw⟩ Hk
  sl_exec
  iapply Hk
  isplitl [Hs_dst]
  · unfold wHas
    iexists f
    isplitr; · ipureintro; exact hf
    rw [← wbS_set]; iexact Hs_dst
  isplitl [Hs]; · iexact Hs
  iexists _; iexact HO

/-! ## The products -/

abbrev accR : Rect S512x2048 := Rect.unit (s := S512x2048) ![0, 0] S512x2048.size inb_S512x2048_S512x2048_0_0

def accAny (c : Dev nD) : sProp 𝕄 := iprop(∃ f, accM.view.loc (c : Thread nD τ) ↦{fullShare} f)
def accHas (c : Dev nD) (a : FVec F S512x2048 .f32) : sProp 𝕄 :=
  iprop(∃ f, ⌜accM.view.readAt (Elt F) accR.toLoadRect f = a⌝ ∗ accM.view.loc (c : Thread nD τ) ↦{fullShare} f)

/-- The element of a scale tile that a product is multiplied by. -/
def head (s : FVec F S1x8x128 .f32) : Vec F S1x1x1 .f32 := extractStridedSlice S1x1x1 ![0, 0, 0] s (by decide)
theorem readAt_head (i : ℕ) (h : i < 7) (f : rsM.view.ty.Contents (Elt F)) :
    rsM.view.readAt (Elt F) (Rect.unit (s := S7x8x128) ![i, 0, 0] S1x1x1.size (inbS1 h)).toLoadRect f = head (rsM.view.readAt (Elt F) (sR i h).toLoadRect f) := by
  funext x
  refine congrArg f (funext fun a => Fin.ext ?_)
  fin_cases a
  · show i + 1 * (x 0).val = i + 1 * (0 + (x 0).val); omega
  · show 0 + 1 * (x 1).val = 0 + 1 * (0 + (x 1).val); omega
  · show 0 + 1 * (x 2).val = 0 + 1 * (0 + (x 2).val); omega
/-- Columns `512 h …` of the accumulator. -/
def cols (h : ℕ) (hh : h < 4) (a : FVec F S512x2048 .f32) : FVec F S512x512 .f32 := extractStridedSlice S512x512 ![0, 512 * h] a (slicesOut hh)
theorem readAt_cols (h : ℕ) (hh : h < 4) (f : accM.view.ty.Contents (Elt F)) :
    accM.view.readAt (Elt F) (outR h hh).toLoadRect f = cols h hh (accM.view.readAt (Elt F) accR.toLoadRect f) := by
  funext x
  refine congrArg f (funext fun a => Fin.ext ?_)
  fin_cases a
  · show 0 + 1 * (x 0).val = 0 + 1 * (0 + (x 0).val); omega
  · show 512 * h + 1 * (x 1).val = 0 + 1 * (512 * h + (x 1).val); omega

theorem product_step (c : Dev nD) (x : Vec F S1x512x512 .f32) (w : Vec F S1x512x2048 .f32) {k : PUnit → KProg (F := F)} {Kt : PUnit → sProp 𝕄} :
    iprop(xHas c 0 (by decide) x ∗ wHas c 0 (by decide) w ∗ accAny c)
      ⊢ iprop(((xAny c 0 (by decide) ∗ wAny c 0 (by decide) ∗ accHas c (ownDot x w)) -∗ Does c (k ⟨⟩) Kt) -∗ Does c (product >>= k) Kt) := by
  unfold product xHas wHas accAny
  unfold Does
  iintro ⟨⟨%f, %hf, Hx⟩, ⟨%fq, %hq, Hq⟩, ⟨%fs, Hs⟩⟩ Hk
  sl_exec
  iapply Hk
  unfold xAny wAny accHas
  isplitl [Hx]; · iexists _; iexact Hx
  isplitl [Hq]; · iexists _; iexact Hq
  iexists _
  isplitr
  rotate_left
  · iexact Hs
  ipureintro
  exact View.read_write_univ _ _

theorem accumulate_step (c : Dev nD) (i : ℕ) (h : i < 7) (j : ℕ) (hj : j < 3) (q : Vec F S1x512x512 .i8) (s : Vec F S1x8x128 .f32)
    (w : Vec F S1x512x2048 .f32) (a : FVec F S512x2048 .f32) {k : PUnit → KProg (F := F)} {Kt : PUnit → sProp 𝕄} :
    iprop(coHas c i h q ∗ rsHas c i h s ∗ wHas c j hj w ∗ accHas c a)
      ⊢ iprop(((coAny c i h ∗ rsAny c i h ∗ wAny c j hj ∗ accHas c (accAdd q w a (head s))) -∗ Does c (k ⟨⟩) Kt) -∗ Does c (accumulate i h j hj >>= k) Kt) := by
  unfold accumulate coHas rsHas wHas accHas
  unfold Does
  iintro ⟨⟨%fq, %hq, Hq⟩, ⟨%fs, %hs, Hs⟩, ⟨%fw, %hw, Hw⟩, ⟨%fa, %ha, Ha⟩⟩ Hk
  have hs' := (readAt_head i h fs).trans (congrArg head hs)
  sl_exec
  iapply Hk
  unfold coAny rsAny wAny
  isplitl [Hq]; · iexists _; iexact Hq
  isplitl [Hs]; · iexists _; iexact Hs
  isplitl [Hw]; · iexists _; iexact Hw
  iexists _
  isplitr
  rotate_left
  · iexact Ha
  ipureintro
  exact View.read_write_univ _ _

/-! ## The output tiles -/

def yAny (c : Dev nD) (h : ℕ) (hh : h < 4) : sProp 𝕄 :=
  iprop(∃ f, yM.view.loc (c : Thread nD τ) ↦[yM.view.setOn (yR h hh).set]{fullShare} f)
def outAny (c : Dev nD) (h : ℕ) (hh : h < 4) : sProp 𝕄 :=
  iprop(∃ f, outM.view.loc (c : Thread nD τ) ↦[outM.view.setOn (outR h hh).set]{fullShare} f)
def outHas (c : Dev nD) (h : ℕ) (hh : h < 4) (v : Vec F S512x512 .bf16) : sProp 𝕄 :=
  iprop(∃ f, ⌜outM.view.readAt (Elt F) (outR h hh).toLoadRect f = v⌝ ∗ outM.view.loc (c : Thread nD τ) ↦[outM.view.setOn (outR h hh).set]{fullShare} f)
/-- An output tile as it is copied out. -/
def outTile (h : ℕ) (hh : h < 4) (q : Vec F S1x512x512 .i8) (s : Vec F S1x8x128 .f32) (w : Vec F S1x512x2048 .f32) (a : FVec F S512x2048 .f32) :
    Vec F S512x512 .bf16 := shapeCast S512x512 (yTile h hh q (head s) w (cols h hh a)) shapeCasts_S1x512x512_S512x512
/-- The copy of an output tile under way. -/
def yFly (c : Dev nD) (h : ℕ) (hh : h < 4) (v : Vec F S512x512 .bf16) : sProp 𝕄 :=
  iprop(∃ f g, ⌜outM.view.readAt (Elt F) (outR h hh).toLoadRect f = v⌝ ∗
    Transfers.Flight countersEmb (c : Thread nD τ) (SemLoc.dma (ySem h hh)) false 16384
      iprop(((outS h hh).view.loc (c : Thread nD τ) ↦[(outS h hh).view.set]{fullShare} f)
        ∗ ((yS h hh).view.loc (c : Thread nD τ) ↦[(yS h hh).view.set]{fullShare} g)))
theorem yS_set (h : ℕ) (hh : h < 4) : (yS h hh).view.set = yM.view.setOn (yR h hh).set :=
  (Memref.set_view_squeeze _ _).trans (View.set_slice _ _)
theorem outS_set (h : ℕ) (hh : h < 4) : (outS h hh).view.set = outM.view.setOn (outR h hh).set := View.set_slice _ _

theorem tile_step (c : Dev nD) (h : ℕ) (hh : h < 4) (q : Vec F S1x512x512 .i8) (s : Vec F S1x8x128 .f32)
    (w : Vec F S1x512x2048 .f32) (a : FVec F S512x2048 .f32) {k : PUnit → KProg (F := F)} {Kt : PUnit → sProp 𝕄} :
    iprop(wHas c 1 (by decide) w ∗ accHas c a ∗ yAny c h hh ∗ outAny c h hh ∗ semVal (dCell c (ySem h hh)) 0)
      ⊢ iprop(((wHas c 1 (by decide) w ∗ accHas c a ∗ yFly c h hh (outTile h hh q s w a)) -∗ Does c (k ⟨⟩) Kt) -∗ Does c (tile h hh q (head s) >>= k) Kt) := by
  unfold tile wHas accHas yAny outAny yS outS
  unfold Does
  iintro ⟨⟨%fw, %hw, Hw⟩, ⟨%fa, %ha, Ha⟩, ⟨%fy, Hy⟩, ⟨%fo, Ho⟩, Hs⟩ Hk
  have ha' := (readAt_cols h hh fa).trans (congrArg (cols h hh) ha)
  sl_exec
  iapply Hk
  isplitl [Hw]; · iexists _; isplitr; · ipureintro; exact hw
                  iexact Hw
  isplitl [Ha]; · iexists _; isplitr; · ipureintro; exact ha
                  iexact Ha
  unfold yFly
  iexists _, _
  isplitr
  rotate_left
  · iexact Hs
  ipureintro
  exact (View.read_write_univ (v := (outS h hh).view) _ _).trans
    (congrArg (fun z => shapeCast S512x512 z shapeCasts_S1x512x512_S512x512) (View.read_write_univ (v := yM.view.slice (yR h hh)) _ _))

theorem yWait_step (c : Dev nD) (h : ℕ) (hh : h < 4) (v : Vec F S512x512 .bf16) {k : PUnit → KProg (F := F)} {Kt : PUnit → sProp 𝕄} :
    iprop(yFly c h hh v ∗ owesE c 0)
      ⊢ iprop(((outHas c h hh v ∗ yAny c h hh ∗ semVal (dCell c (ySem h hh)) 0 ∗ owesE c 0) -∗ Does c (k ⟨⟩) Kt) -∗ Does c (yWait h hh >>= k) Kt) := by
  unfold yWait yFly owesE
  unfold Does
  iintro ⟨⟨%f, %g, %hf, Hs⟩, ⟨%W, HO⟩⟩ Hk
  sl_exec
  iapply Hk
  isplitl [Hs_dst]
  · unfold outHas
    iexists f
    isplitr; · ipureintro; exact hf
    rw [← outS_set]; iexact Hs_dst
  isplitl [Hs_src]
  · unfold yAny
    iexists g
    rw [← yS_set]; iexact Hs_src
  isplitl [Hs]; · iexact Hs
  iexists _; iexact HO

end Cert.KernelIdeal.Run
end
-- ==== Proof.Remote.lean ====
/-
# The steps that reach other devices

A signal, the barrier wait, the two remote copies of a send step, the two waits of a receive step and the two waits
for the departures, each at a symbolic step number.
-/
module

public import proofs.«01_k».proof.Proof.Local

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

variable (m : (ℓ : Loc nD τ sig) → Buf (Elt F) ℓ)

/-- What stays known of a cell: its invariant, and that its only round has begun. -/
def known (g : GSem nD τ sig) : sProp 𝕄 := iprop((∃ κ, cellInv ER (ringRd m) κ g) ∗ reached ER g 0)

instance known_persistent (g : GSem nD τ sig) : BI.Persistent (known m g) := by unfold known; infer_instance

/-- Signal number `i`. -/
theorem signal_step (c n : Dev nD) (i : ℕ) (h : i < 7) (hn : n = fw i c) {k : PUnit → KProg (F := F)} {Kt : PUnit → sProp 𝕄} :
    iprop(known m (barCell (fw i c)) ∗ owesE c (owedBar c (7 - i)) ∗ dutyTok ER (barCell (fw i c)) 0 (⟨i, h⟩ : Fin 7) ∗ slots c i h)
      ⊢ iprop((owesE c (owedBar c (6 - i)) -∗ Does c (k ⟨⟩) Kt) -∗ Does c (semSignalWord n barSem 1#32 >>= k) Kt) := by
  subst hn
  unfold known owesE Does
  iintro ⟨⟨⟨%κ, #HI⟩, #Hr⟩, ⟨%W, HO⟩, Ht, Hp⟩ Hk
  simp only [semSignalWord, Prog.lift, Prog.bind_op, Prog.bind_ret]
  iapply (Rounds.wp_signal Variants.none ER (ringRd m) (c : Thread nD τ) none (dst := (fw i c : Thread nD τ)) (κ := κ)
      (d := (⟨i, h⟩ : Fin 7)) (by rw [duties_bar]; exact Finset.mem_univ _) ((amount_bar m (fw i c) ⟨i, h⟩).trans (by decide)) true (owedBar c (6 - i))
      (owedBar_step h))
    $$ [HO Ht Hp]
  · isplitr; · iexact HI
    isplitl [HO]; · iexact HO
    isplitl [Ht]; · iexact Ht
    isplitl [Hp]
    · rw [payload_bar, bk_fw h]; iexact Hp
    iexact Hr
  iintro HO
  iapply Hk
  iexists W; iexact HO

/-- The barrier wait: every other device's landing slots for this one, and the barrier's counter at zero. -/
theorem barrier_step (c : Dev nD) {k : PUnit → KProg (F := F)} {Kt : PUnit → sProp 𝕄} :
    iprop(known m (barCell c) ∗ levAts L lv ∗ cred (tallyAt (barCell c) true 7) ∗ owesE c (owedSends c 7) ∗ atPos ER (barCell c) 0 ∅ 0)
      ⊢ iprop(((owesE c (owedSends c 7) ∗ semVal (barCell c) 0 ∗ bigSep Finset.univ (fun d : Fin 7 => slots (F := F) (bk d.val c) d.val d.isLt))
          -∗ Does c (k ⟨⟩) Kt) -∗ Does c (semWaitWord barSem 7#32 >>= k) Kt) := by
  unfold known owesE Does
  iintro ⟨⟨⟨%κ, #HI⟩, #Hr⟩, #Hlev, Hc, ⟨%W, HO⟩, Hat⟩ Hk
  simp only [semWaitWord, Prog.lift, Prog.bind_op, Prog.bind_ret]
  iapply (Rounds.wp_wait_rest_token Variants.none ER (ringRd m) (c : Thread nD τ) none (κ := κ)
      (wpE_semWait_eq Variants.none (c : Thread nD τ) none Set.univ) (Set.mem_univ _) true (O := owedSends c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (ringRd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## Sends -/

theorem xqS_set (i : ℕ) (h : i < 7) : (xqS i h).view.set = xqM.view.setOn (qR i h).set :=
  (Memref.set_view_squeeze _ _).trans (View.set_slice _ _)
theorem qsS_set (i : ℕ) (h : i < 7) : (qsS i h).view.set = qsM.view.setOn (sR i h).set :=
  (Memref.set_view_squeeze _ _).trans (View.set_slice _ _)
theorem coS_set (i : ℕ) (h : i < 7) : (coS i h).view.set = coM.view.setOn (qR i h).set :=
  (Memref.set_view_squeeze _ _).trans (View.set_slice _ _)
theorem rsS_set (i : ℕ) (h : i < 7) : (rsS i h).view.set = rsM.view.setOn (sR i h).set :=
  (Memref.set_view_squeeze _ _).trans (View.set_slice _ _)

/-- A landed block reads what the sender's slot read. -/
theorem landed_q (i : ℕ) (h : i < 7) (f : xqM.view.ty.Contents (Elt F)) (fd : coM.view.ty.Contents (Elt F)) :
    coM.view.readAt (Elt F) (qR i h).toLoadRect ((coS i h).view.write (Elt F) fd ((xqS i h).view.read (Elt F) f) Finset.univ)
      = xqM.view.readAt (Elt F) (qR i h).toLoadRect f :=
  (readAt_write_slot coM (qR i h) (fun _ => rfl) squeezes_S1x512x512_S512x512 shapeCasts_S512x512_S1x512x512 fd _).trans
    (shapeCast_shapeCast (xqM.view.readAt (Elt F) (qR i h).toLoadRect f) shapeCasts_S1x512x512_S512x512 _)
theorem castsS : S8x128.ShapeCasts S1x8x128 := by decide
theorem landed_s (i : ℕ) (h : i < 7) (f : qsM.view.ty.Contents (Elt F)) (fd : rsM.view.ty.Contents (Elt F)) :
    rsM.view.readAt (Elt F) (sR i h).toLoadRect ((rsS i h).view.write (Elt F) fd ((qsS i h).view.read (Elt F) f) Finset.univ)
      = qsM.view.readAt (Elt F) (sR i h).toLoadRect f :=
  (readAt_write_slot rsM (sR i h) (fun _ => rfl) squeezes_S1x8x128_S8x128 castsS fd _).trans
    (shapeCast_shapeCast (qsM.view.readAt (Elt F) (sR i h).toLoadRect f) castsS.symm castsS)

/-- The remote copy of a quantised block. -/
theorem qSend_step (c n : Dev nD) (i : ℕ) (h : i < 7) (hn : n = fw i c) {k : PUnit → KProg (F := F)} {Kt : PUnit → sProp 𝕄} :
    iprop(known m (dCell c (qSendSem i h)) ∗ known m (dCell (fw i c) (qRecvSem i h))
        ∗ xqHas c i h (quant (xBlk m c (i + 1) (Nat.succ_lt_succ h))) ∗ coAny (fw i c) i h ∗ owesE c (owedSends c (7 - i))
        ∗ dutyTok ER (dCell c (qSendSem i h)) 0 (0 : Fin 7) ∗ dutyTok ER (dCell (fw i c) (qRecvSem i h)) 0 (0 : Fin 7))
      ⊢ iprop(((cred (tallyAt (dCell c (qSendSem i h)) false NQ) ∗ owesE c (owedSends c (6 - i) + tallyAt (dCell (fw i c) (sRecvSem i h)) true NS))
          -∗ Does c (k ⟨⟩) Kt) -∗ Does c (qSend n i h >>= k) Kt) := by
  subst hn
  unfold known owesE Does xqHas coAny
  iintro ⟨⟨⟨%κ, #HI⟩, #Hr⟩, ⟨⟨%κ', #HI'⟩, #Hr'⟩, ⟨%f, %hf, Hx⟩, ⟨%fd, Hd⟩, ⟨%W, HO⟩, Ht, Ht'⟩ Hk
  simp only [qSend, Prog.lift, Prog.bind_op, Prog.bind_ret]
  rw [← xqS_set, ← coS_set]
  iapply (Rounds.wp_send_pointsTo Variants.none ER (ringRd m) (c : Thread nD τ) none (c' := (fw i c : Thread nD τ)) (src := xqS i h) (dst := coS i h) (κ₁ := κ) (κ₂ := κ') (r₁ := 0) (r₂ := 0)
      (d₁ := (0 : Fin 7)) (d₂ := (0 : Fin 7)) (fs := f) (fd := fd)
      (by rw [duties_dma m c _ (by rw [qSendSem_val]; omega)]; exact Finset.mem_singleton_self _)
      (by rw [duties_dma m (fw i c) _ (by rw [qRecvSem_val]; omega)]; exact Finset.mem_singleton_self _)
      true false NQ rfl (amount_q m c _ (by rw [qSendSem_val]; omega) 0) (amount_q m (fw i c) _ (by rw [qRecvSem_val]; omega) 0)
      (owedSends c (6 - i) + tallyAt (dCell (fw i c) (sRecvSem i h)) true NS) (owedSends_step h) (W := W)
      (by rw [payload_dma, payAt_qSend m c h, xqS_set]; unfold xqAny; iintro H; iexists f; iexact H)
      (by rw [payload_dma, payAt_qRecv m (fw i c) h, coS_set]; unfold coGot coHas gotQ
          iintro H; iexists _; isplitr
          rotate_left; · iexact H
          ipureintro; rw [landed_q, hf]; simp only [bk_fw h]))
    $$ [Hx Hd HO Ht Ht']
  · isplitr; · iexact HI
    isplitr; · iexact HI'
    isplitl [Hx]; · iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- The remote copy of its scale. -/
theorem sSend_step (c n : Dev nD) (i : ℕ) (h : i < 7) (hn : n = fw i c) {k : PUnit → KProg (F := F)} {Kt : PUnit → sProp 𝕄} :
    iprop(known m (dCell c (sSendSem i h)) ∗ known m (dCell (fw i c) (sRecvSem i h))
        ∗ qsHas c i h (scale (xBlk m c (i + 1) (Nat.succ_lt_succ h))) ∗ rsAny (fw i c) i h
        ∗ owesE c (owedSends c (6 - i) + tallyAt (dCell (fw i c) (sRecvSem i h)) true NS)
        ∗ dutyTok ER (dCell c (sSendSem i h)) 0 (0 : Fin 7) ∗ dutyTok ER (dCell (fw i c) (sRecvSem i h)) 0 (0 : Fin 7))
      ⊢ iprop(((cred (tallyAt (dCell c (sSendSem i h)) false NS) ∗ owesE c (owedSends c (6 - i)))
          -∗ Does c (k ⟨⟩) Kt) -∗ Does c (sSend n i h >>= k) Kt) := by
  subst hn
  unfold known owesE Does qsHas rsAny
  iintro ⟨⟨⟨%κ, #HI⟩, #Hr⟩, ⟨⟨%κ', #HI'⟩, #Hr'⟩, ⟨%f, %hf, Hx⟩, ⟨%fd, Hd⟩, ⟨%W, HO⟩, Ht, Ht'⟩ Hk
  simp only [sSend, Prog.lift, Prog.bind_op, Prog.bind_ret]
  rw [← qsS_set, ← rsS_set]
  iapply (Rounds.wp_send_pointsTo Variants.none ER (ringRd m) (c : Thread nD τ) none (c' := (fw i c : Thread nD τ)) (src := qsS i h) (dst := rsS i h) (κ₁ := κ) (κ₂ := κ') (r₁ := 0) (r₂ := 0)
      (d₁ := (0 : Fin 7)) (d₂ := (0 : Fin 7)) (fs := f) (fd := fd)
      (by rw [duties_dma m c _ (by rw [sSendSem_val]; omega)]; exact Finset.mem_singleton_self _)
      (by rw [duties_dma m (fw i c) _ (by rw [sRecvSem_val]; omega)]; exact Finset.mem_singleton_self _)
      true false NS rfl (amount_s m c _ (by rw [sSendSem_val]; omega) 0) (amount_s m (fw i c) _ (by rw [sRecvSem_val]; omega) 0)
      (owedSends c (6 - i)) rfl (W := W)
      (by rw [payload_dma, payAt_sSend m c h, qsS_set]; unfold qsAny; iintro H; iexists f; iexact H)
      (by rw [payload_dma, payAt_sRecv m (fw i c) h, rsS_set]; unfold rsGot rsHas gotS
          iintro H; iexists _; isplitr
          rotate_left; · iexact H
          ipureintro; rw [landed_s, hf]; simp only [bk_fw h]))
    $$ [Hx Hd HO Ht Ht']
  · isplitr; · iexact HI
    isplitr; · iexact HI'
    isplitl [Hx]; · iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-! ## Waits -/

/-- A wait for the whole round of a transfer cell, nothing owed: the payload, and the counter at zero. -/
theorem round_step (c : Dev nD) (q : DmaSem sig) (hq : 11 ≤ q.val ∧ q.val < 39) (b : Bool) {s s' : Shape} {e e' : EltTy} {sp sp' : Space}
    (src : Memref sig .tc sp s e) (dst : Memref sig .tc sp' s' e') (hs : src.view.WordExact) (hd : dst.view.WordExact) (N : ℕ)
    (hN : dst.view.dmaCredit = N) (hA : amountAt (.dma q) = N) {k : PUnit → KProg (F := F)} {Kt : PUnit → sProp 𝕄} :
    iprop(known m (dCell c q) ∗ cred (tallyAt (dCell c q) b N) ∗ owesE c 0 ∗ atPos ER (dCell c q) 0 ∅ 0)
      ⊢ iprop(((owesE c 0 ∗ payAt m c q.val ∗ semVal (dCell c q) 0) -∗ Does c (k ⟨⟩) Kt)
          -∗ Does c (Prog.lift (.waitDma2 q src dst hs hd) >>= k) Kt) := by
  subst hN
  unfold known owesE Does
  iintro ⟨⟨⟨%κ, #HI⟩, #Hr⟩, Hc, ⟨%W, HO⟩, Hat⟩ Hk
  simp only [Prog.lift, Prog.bind_op, Prog.bind_ret]
  iapply (Rounds.wp_wait_rest_token Variants.none ER (ringRd m) (c : Thread nD τ) none (κ := κ)
      (wpE_waitDma2_eq Variants.none (c : Thread nD τ) none Set.univ) (Set.mem_univ _) b (O := 0) (W := W) (R := 0) (m := 0) (T := ∅)
      (by rw [Nat.zero_add, expect_dma m c q hq, hA])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_dma m c q hq)) $$ Hpay
  imod (Rounds.cell_close ER (ringRd m) (Set.mem_univ κ) (fun h => h) (R := 0 + 1) (duties_later m (dCell c q))) $$ [Hat] with Hz
  · isplitr; · iexact HI
    iexact Hat
  iapply Hk
  isplitl [HO]; · iexists _; iexact HO
  isplitl [Hp]; · iexact Hp
  iexact Hz

theorem amountAt_q {q : DmaSem sig} (h : (11 ≤ q.val ∧ q.val < 18) ∨ (25 ≤ q.val ∧ q.val < 32)) : amountAt (.dma q) = NQ := if_pos h
theorem amountAt_s {q : DmaSem sig} (h : ¬ ((11 ≤ q.val ∧ q.val < 18) ∨ (25 ≤ q.val ∧ q.val < 32))) : amountAt (.dma q) = NS := if_neg h

theorem qRecv_step (c : Dev nD) (i : ℕ) (h : i < 7) {k : PUnit → KProg (F := F)} {Kt : PUnit → sProp 𝕄} :
    iprop(known m (dCell c (qRecvSem i h)) ∗ cred (tallyAt (dCell c (qRecvSem i h)) true NQ) ∗ owesE c 0 ∗ atPos ER (dCell c (qRecvSem i h)) 0 ∅ 0)
      ⊢ iprop(((owesE c 0 ∗ coGot m c i h ∗ semVal (dCell c (qRecvSem i h)) 0) -∗ Does c (k ⟨⟩) Kt) -∗ Does c (qRecv i h >>= k) Kt) := by
  rw [← payAt_qRecv m c h]
  exact round_step m c (qRecvSem i h) (by rw [qRecvSem_val]; omega) true (coS i h) (coS i h) _ _ NQ rfl (amountAt_q (by rw [qRecvSem_val]; omega))

theorem sRecv_step (c : Dev nD) (i : ℕ) (h : i < 7) {k : PUnit → KProg (F := F)} {Kt : PUnit → sProp 𝕄} :
    iprop(known m (dCell c (sRecvSem i h)) ∗ cred (tallyAt (dCell c (sRecvSem i h)) true NS) ∗ owesE c 0 ∗ atPos ER (dCell c (sRecvSem i h)) 0 ∅ 0)
      ⊢ iprop(((owesE c 0 ∗ rsGot m c i h ∗ semVal (dCell c (sRecvSem i h)) 0) -∗ Does c (k ⟨⟩) Kt) -∗ Does c (sRecv i h >>= k) Kt) := by
  rw [← payAt_sRecv m c h]
  exact round_step m c (sRecvSem i h) (by rw [sRecvSem_val]; omega) true (rsS i h) (rsS i h) _ _ NS rfl (amountAt_s (by rw [sRecvSem_val]; omega))

/-- The waits for the departures of step `i`. -/
theorem drain_step (c : Dev nD) (i : ℕ) (h : i < 7) {k : PUnit → KProg (F := F)} {Kt : PUnit → sProp 𝕄} :
    iprop(known m (dCell c (qSendSem i h)) ∗ cred (tallyAt (dCell c (qSendSem i h)) false NQ) ∗ atPos ER (dCell c (qSendSem i h)) 0 ∅ 0
        ∗ known m (dCell c (sSendSem i h)) ∗ cred (tallyAt (dCell c (sSendSem i h)) false NS) ∗ atPos ER (dCell c (sSendSem i h)) 0 ∅ 0 ∗ owesE c 0)
      ⊢ iprop(((owesE c 0 ∗ xqAny c i h ∗ semVal (dCell c (qSendSem i h)) 0 ∗ qsAny c i h ∗ semVal (dCell c (sSendSem i h)) 0) -∗ Does c (k ⟨⟩) Kt)
          -∗ Does c (drainStep i h >>= k) Kt) := by
  rw [← payAt_qSend m c h, ← payAt_sSend m c h]
  iintro ⟨#HI, Hc, Hat, #HI', Hc', Hat', HO⟩ Hk
  unfold drainStep
  rw [bind_assoc]
  iapply (round_step m c (qSendSem i h) (by rw [qSendSem_val]; omega) false (coS i h) (xqS i h) _ _ NQ rfl (amountAt_q (by rw [qSendSem_val]; omega))) $$ [Hc Hat HO]
  · isplitr; · iexact HI
    isplitl [Hc]; · iexact Hc
    isplitl [HO]; · iexact HO
    iexact Hat
  iintro ⟨HO, Hq, Hz⟩
  iapply (round_step m c (sSendSem i h) (by rw [sSendSem_val]; omega) false (rsS i h) (qsS i h) _ _ NS rfl (amountAt_s (by rw [sSendSem_val]; omega))) $$ [Hc' Hat' HO]
  · isplitr; · iexact HI'
    isplitl [Hc']; · iexact Hc'
    isplitl [HO]; · iexact HO
    iexact Hat'
  iintro ⟨HO, Hs, Hz'⟩
  iapply Hk
  isplitl [HO]; · iexact HO
  isplitl [Hq]; · iexact Hq
  isplitl [Hz]; · iexact Hz
  isplitl [Hs]; · iexact Hs
  iexact Hz'

end Cert.KernelIdeal.Run
end
-- ==== Proof.Phases.lean ====
/-
# The phases of the kernel

The copies in, the barrier, the sends, the receives, the last receive and the departures, each as one statement about
the device that runs it.
-/
module

public import proofs.«01_k».proof.Proof.Remote

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem bigSep_nat7 (Φ : (i : ℕ) → i < 7 → sProp 𝕄) : (bigSep Finset.univ fun i : Fin 7 => Φ i.val i.isLt)
    = iprop(Φ 0 (by decide) ∗ Φ 1 (by decide) ∗ Φ 2 (by decide) ∗ Φ 3 (by decide) ∗ Φ 4 (by decide) ∗ Φ 5 (by decide) ∗ Φ 6 (by decide)) :=
  bigSep_fin7 _
theorem bigSep_nat4 (Φ : (i : ℕ) → i < 4 → sProp 𝕄) : (bigSep Finset.univ fun i : Fin 4 => Φ i.val i.isLt)
    = iprop(Φ 0 (by decide) ∗ Φ 1 (by decide) ∗ Φ 2 (by decide) ∗ Φ 3 (by decide)) := bigSep_fin4 _
theorem bigSep_nat3 (Φ : (i : ℕ) → i < 3 → sProp 𝕄) : (bigSep Finset.univ fun i : Fin 3 => Φ i.val i.isLt)
    = iprop(Φ 0 (by decide) ∗ Φ 1 (by decide) ∗ Φ 2 (by decide)) := bigSep_fin3 _

/-- Seven steps in a row, each from the state `O i` to `O (i + 1)` and from its own `A i` to `B i`. -/
theorem seven (c : Dev nD) (p : Fin 7 → KProg (F := F)) (A B : Fin 7 → sProp 𝕄) (O : ℕ → sProp 𝕄) (R : sProp 𝕄) [BI.Persistent R]
    (hs : ∀ (i : Fin 7) (k : PUnit → KProg (F := F)) (Kt : PUnit → sProp 𝕄),
      iprop(R ∗ A i ∗ O i.val) ⊢ iprop(((B i ∗ O (i.val + 1)) -∗ Does c (k ⟨⟩) Kt) -∗ Does c (p i >>= k) Kt))
    {k : PUnit → KProg (F := F)} {Kt : PUnit → sProp 𝕄} :
    iprop(R ∗ bigSep Finset.univ A ∗ O 0)
      ⊢ iprop(((bigSep Finset.univ B ∗ O 7) -∗ Does c (k ⟨⟩) Kt)
          -∗ Does c (p 0 >>= fun _ => p 1 >>= fun _ => p 2 >>= fun _ => p 3 >>= fun _ => p 4 >>= fun _ => p 5 >>= fun _ => p 6 >>= k) Kt) := by
  rw [bigSep_fin7, bigSep_fin7]
  have h0 : ∀ k, iprop(R ∗ A 0 ∗ O 0) ⊢ iprop(((B 0 ∗ O 1) -∗ Does c (k ⟨⟩) Kt) -∗ Does c (p 0 >>= k) Kt) := fun k => hs 0 k Kt
  have h1 : ∀ k, iprop(R ∗ A 1 ∗ O 1) ⊢ iprop(((B 1 ∗ O 2) -∗ Does c (k ⟨⟩) Kt) -∗ Does c (p 1 >>= k) Kt) := fun k => hs 1 k Kt
  have h2 : ∀ k, iprop(R ∗ A 2 ∗ O 2) ⊢ iprop(((B 2 ∗ O 3) -∗ Does c (k ⟨⟩) Kt) -∗ Does c (p 2 >>= k) Kt) := fun k => hs 2 k Kt
  have h3 : ∀ k, iprop(R ∗ A 3 ∗ O 3) ⊢ iprop(((B 3 ∗ O 4) -∗ Does c (k ⟨⟩) Kt) -∗ Does c (p 3 >>= k) Kt) := fun k => hs 3 k Kt
  have h4 : ∀ k, iprop(R ∗ A 4 ∗ O 4) ⊢ iprop(((B 4 ∗ O 5) -∗ Does c (k ⟨⟩) Kt) -∗ Does c (p 4 >>= k) Kt) := fun k => hs 4 k Kt
  have h5 : ∀ k, iprop(R ∗ A 5 ∗ O 5) ⊢ iprop(((B 5 ∗ O 6) -∗ Does c (k ⟨⟩) Kt) -∗ Does c (p 5 >>= k) Kt) := fun k => hs 5 k Kt
  have h6 : ∀ k, iprop(R ∗ A 6 ∗ O 6) ⊢ iprop(((B 6 ∗ O 7) -∗ Does c (k ⟨⟩) Kt) -∗ Does c (p 6 >>= k) Kt) := fun k => hs 6 k Kt
  iintro ⟨#HR, ⟨A0, A1, A2, A3, A4, A5, A6⟩, HO⟩ Hk
  iapply (h0 _) $$ [A0 HO]
  · isplitr; · iexact HR
    isplitl [A0] <;> iassumption
  iintro ⟨B0, HO⟩
  iapply (h1 _) $$ [A1 HO]
  · isplitr; · iexact HR
    isplitl [A1] <;> iassumption
  iintro ⟨B1, HO⟩
  iapply (h2 _) $$ [A2 HO]
  · isplitr; · iexact HR
    isplitl [A2] <;> iassumption
  iintro ⟨B2, HO⟩
  iapply (h3 _) $$ [A3 HO]
  · isplitr; · iexact HR
    isplitl [A3] <;> iassumption
  iintro ⟨B3, HO⟩
  iapply (h4 _) $$ [A4 HO]
  · isplitr; · iexact HR
    isplitl [A4] <;> iassumption
  iintro ⟨B4, HO⟩
  iapply (h5 _) $$ [A5 HO]
  · isplitr; · iexact HR
    isplitl [A5] <;> iassumption
  iintro ⟨B5, HO⟩
  iapply (h6 k) $$ [A6 HO]
  · isplitr; · iexact HR
    isplitl [A6] <;> iassumption
  iintro ⟨B6, HO⟩
  iapply Hk
  isplitr [HO]
  · isplitl [B0]; · iexact B0
    isplitl [B1]; · iexact B1
    isplitl [B2]; · iexact B2
    isplitl [B3]; · iexact B3
    isplitl [B4]; · iexact B4
    isplitl [B5]; · iexact B5
    iexact B6
  iexact HO

variable (m : (ℓ : Loc nD τ sig) → Buf (Elt F) ℓ)

/-! ## What is known of all cells -/

/-- The semaphores of a device that others signal or copy onto, or that departures count on. -/
def csem (k : Fin 29) : SemLoc sig := if h : k.val = 0 then .reg barSem else .dma ⟨10 + k.val, by have := k.isLt; show 10 + k.val < 43; omega⟩
def kcell (ck : Dev nD × Fin 29) : GSem nD τ sig := ((ck.1 : Thread nD τ), csem ck.2)
/-- What is known of every cell, and the levels. -/
def facts : sProp 𝕄 := iprop((bigSep Finset.univ fun ck : Dev nD × Fin 29 => known m (kcell ck)) ∗ levAts L lv)
instance facts_persistent : BI.Persistent (facts (F := F) m) := by unfold facts; infer_instance

theorem facts_lev : facts m ⊢ (levAts L lv : sProp 𝕄) := by unfold facts; iintro ⟨-, H⟩; iexact H
theorem facts_at (ck : Dev nD × Fin 29) : facts m ⊢ known m (kcell ck) := by
  unfold facts
  have e : (bigSep Finset.univ fun ck : Dev nD × Fin 29 => known m (kcell ck)) ⊢ known m (kcell ck) := bigSep_elim (Finset.mem_univ ck)
  iintro ⟨H, -⟩
  iapply e
  iexact H
theorem facts_bar (c : Dev nD) : facts m ⊢ known m (barCell c) := facts_at m (c, 0)
theorem facts_dma (c : Dev nD) (q : DmaSem sig) (h : 11 ≤ q.val ∧ q.val < 39) : facts m ⊢ known m (dCell c q) := by
  have e : kcell (c, ⟨q.val - 10, by omega⟩) = dCell c q := by
    unfold kcell csem
    rw [dif_neg (by show ¬ (q.val - 10 = 0); omega)]
    exact congrArg (fun z => ((c : Thread nD τ), SemLoc.dma z)) (Fin.ext (by show 10 + (q.val - 10) = q.val; omega))
  rw [← e]; exact facts_at m _
theorem facts_qSend (c : Dev nD) {i : ℕ} (h : i < 7) : facts m ⊢ known m (dCell c (qSendSem i h)) := facts_dma m c _ (by rw [qSendSem_val]; omega)
theorem facts_sSend (c : Dev nD) {i : ℕ} (h : i < 7) : facts m ⊢ known m (dCell c (sSendSem i h)) := facts_dma m c _ (by rw [sSendSem_val]; omega)
theorem facts_qRecv (c : Dev nD) {i : ℕ} (h : i < 7) : facts m ⊢ known m (dCell c (qRecvSem i h)) := facts_dma m c _ (by rw [qRecvSem_val]; omega)
theorem facts_sRecv (c : Dev nD) {i : ℕ} (h : i < 7) : facts m ⊢ known m (dCell c (sRecvSem i h)) := facts_dma m c _ (by rw [sRecvSem_val]; omega)

theorem mayWaits (c : Dev nD) (n : ℕ) : (levAts L lv : sProp 𝕄) ⊢ Transfers.MayWaits (c : Thread nD τ) false (owedSends c n) := by
  unfold Transfers.MayWaits
  iintro #H %sm
  iapply (mayWait_low' c sm n); iexact H

/-! ## The copies in -/

/-- The slot, the share and the counter of the first argument's copy number `i`. -/
def xIn (c : Dev nD) (i : ℕ) (h : i < 8) : sProp 𝕄 := iprop(xAny c i h ∗ xTok m c i ∗ semVal (dCell c (xSem i h)) 0)
/-- The slot and the counter after its wait. -/
def xOut (c : Dev nD) (i : ℕ) (h : i < 8) : sProp 𝕄 := iprop(xAny (F := F) c i h ∗ semVal (dCell c (xSem i h)) 0)
/-- A slot of the second argument and its counter. -/
def wIn (c : Dev nD) (j : ℕ) (h : j < 3) : sProp 𝕄 := iprop(wAny (F := F) c j h ∗ semVal (dCell c (wSem j h)) 0)

theorem copies_phase (c : Dev nD) {k : PUnit → KProg (F := F)} {Kt : PUnit → sProp 𝕄} :
    iprop(xIn m c 0 (by decide) ∗ (bigSep Finset.univ fun i : Fin 7 => xIn m c (i.val + 1) (Nat.succ_lt_succ i.isLt))
        ∗ (wIn (F := F) c 0 (by decide) ∗ wIn (F := F) c 1 (by decide) ∗ wIn (F := F) c 2 (by decide)) ∗ wTok m c 0 ∗ wTok m c 1 ∗ wTok m c 2)
      ⊢ iprop(((xFly m c 0 (by decide) ∗ (bigSep Finset.univ fun i : Fin 7 => xFly m c (i.val + 1) (Nat.succ_lt_succ i.isLt))
            ∗ wFly m c 0 (by decide) 0 (by decide) ∗ wFly m c 1 (by decide) 1 (by decide) ∗ wFly m c 2 (by decide) 2 (by decide))
          -∗ Does c (k ⟨⟩) Kt) -∗ Does c (copies c >>= k) Kt) := by
  unfold copies
  simp only [bind_assoc]
  have e : xIn m c 0 (by decide) = iprop(xAny c 0 (by decide) ∗ xTok m c 0 ∗ semVal (dCell c (xSem 0 (by decide))) 0) := rfl
  rw [e]
  unfold wIn
  iintro ⟨⟨X0, T0, S0⟩, HX, ⟨⟨W0, V0⟩, ⟨W1, V1⟩, ⟨W2, V2⟩⟩, U0, U1, U2⟩ Hk
  iapply (seven c (fun i => xCopy c (i.val + 1) (Nat.succ_lt_succ i.isLt)) (fun i => xIn m c (i.val + 1) (Nat.succ_lt_succ i.isLt))
      (fun i => xFly m c (i.val + 1) (Nat.succ_lt_succ i.isLt)) (fun _ => iprop(emp)) iprop(emp)
      (fun i k Kt => by
        unfold xIn
        iintro ⟨-, H, -⟩ Hk
        iapply (xCopy_step m c (i.val + 1) (Nat.succ_lt_succ i.isLt)) $$ H
        iintro H
        iapply Hk
        isplitl; · iexact H
        iempintro)) $$ [HX]
  · isplitr; · iempintro
    isplitl; · iexact HX
    iempintro
  iintro ⟨HF, -⟩
  iapply (xCopy_step m c 0 _) $$ [X0 T0 S0]
  · isplitl [X0]; · iexact X0
    isplitl [T0] <;> iassumption
  iintro F0
  iapply (wCopy_step m c 0 _ 0 _) $$ [W0 V0 U0]
  · isplitl [W0]; · iexact W0
    isplitl [U0] <;> iassumption
  iintro G0
  iapply (wCopy_step m c 1 _ 1 _) $$ [W1 V1 U1]
  · isplitl [W1]; · iexact W1
    isplitl [U1] <;> iassumption
  iintro G1
  iapply (wCopy_step m c 2 _ 2 _) $$ [W2 V2 U2]
  · isplitl [W2]; · iexact W2
    isplitl [U2] <;> iassumption
  iintro G2
  iapply Hk
  isplitl [F0]; · iexact F0
  isplitl [HF]; · iexact HF
  isplitl [G0]; · iexact G0
  isplitl [G1]; · iexact G1
  iexact G2

/-! ## The barrier -/

/-- The device that signal number `i` goes to. -/
theorem fw_dev (c : Dev nD) {t : ℕ} (n : Dev nD) (i : ℕ) (hn : n.val = (c.val + t) % 8) (ht : t = i + 1) : n = fw i c := by
  subst ht; exact Fin.ext (hn.trans (by show _ = (c.val + (i + 1)) % 8; rfl))

def barDev (c : Dev nD) : Fin 7 → Dev nD := ![⟨k0_dev1 c, k0_dev1_lt c⟩, ⟨k0_dev2 c, k0_dev2_lt c⟩, ⟨k0_dev3 c, k0_dev3_lt c⟩,
  ⟨k0_dev4 c, k0_dev4_lt c⟩, ⟨k0_dev5 c, k0_dev5_lt c⟩, ⟨k0_dev6 c, k0_dev6_lt c⟩, ⟨k0_dev7 c, k0_dev7_lt c⟩]
theorem barDev_eq (c : Dev nD) (i : Fin 7) : barDev c i = fw i.val c := by
  fin_cases i
  exacts [fw_dev c _ 0 (k0_dev1_eq c) rfl, fw_dev c _ 1 (k0_dev2_eq c) rfl, fw_dev c _ 2 (k0_dev3_eq c) rfl, fw_dev c _ 3 (k0_dev4_eq c) rfl,
    fw_dev c _ 4 (k0_dev5_eq c) rfl, fw_dev c _ 5 (k0_dev6_eq c) rfl, fw_dev c _ 6 (k0_dev7_eq c) rfl]

/-- The landing slots that the send step `i` of device `c` writes. -/
def landing (c : Dev nD) (i : Fin 7) : sProp 𝕄 := iprop(coAny (F := F) (fw i.val c) i.val i.isLt ∗ rsAny (fw i.val c) i.val i.isLt)

theorem slots_landing (c : Dev nD) (d : Fin 7) : slots (F := F) (bk d.val c) d.val d.isLt = landing c (Fin.rev d) := by
  unfold slots landing
  have e : (Fin.rev d).val = 6 - d.val := by rw [Fin.val_rev]; omega
  simp only [bk_eq_fw d.isLt c, e]

theorem landings (c : Dev nD) : bigSep Finset.univ (fun d : Fin 7 => slots (F := F) (bk d.val c) d.val d.isLt) = bigSep Finset.univ (landing (F := F) c) := by
  rw [bigSep_congr (fun d _ => slots_landing c d)]
  exact (bigSep_univ_equiv Fin.revPerm (landing (F := F) c)).symm

/-- What device `c` gives with its signal number `i`. -/
def sigIn (c : Dev nD) (i : Fin 7) : sProp 𝕄 := iprop(dutyTok ER (barCell (fw i.val c)) 0 i ∗ slots (F := F) c i.val i.isLt)

theorem barrier_phase (c : Dev nD) {k : PUnit → KProg (F := F)} {Kt : PUnit → sProp 𝕄} :
    iprop(facts m ∗ bigSep Finset.univ (sigIn (F := F) c) ∗ cred (tallyAt (barCell c) true 7) ∗ atPos ER (barCell c) 0 ∅ 0 ∗ owesE c (owedBar c 7))
      ⊢ iprop(((owesE c (owedSends c 7) ∗ semVal (barCell c) 0 ∗ bigSep Finset.univ (landing (F := F) c))
          -∗ Does c (k ⟨⟩) Kt) -∗ Does c (barrier c >>= k) Kt) := by
  unfold barrier
  simp only [bind_assoc]
  iintro ⟨#HK, HS, Hc, Hat, HO⟩ Hk
  iapply (seven c (fun i => semSignalWord (barDev c i) barSem 1#32) (sigIn c) (fun _ => iprop(emp)) (fun i => owesE c (owedBar c (7 - i))) (facts m)
      (fun i k Kt => by
        unfold sigIn
        iintro ⟨#HK, ⟨Ht, Hs⟩, HO⟩ Hk
        iapply (signal_step m c (barDev c i) i.val i.isLt (barDev_eq c i)) $$ [Ht Hs HO]
        · isplitr; · iapply (facts_bar m (fw i.val c)); iexact HK
          isplitl [HO]; · iexact HO
          isplitl [Ht] <;> iassumption
        iintro HO
        iapply Hk
        isplitr; · iempintro
        rw [show 7 - (i.val + 1) = 6 - i.val from by omega]
        iexact HO)) $$ [HS HO]
  · isplitr; · iexact HK
    isplitl [HS] <;> iassumption
  iintro ⟨-, HO⟩
  iapply (barrier_step m c) $$ [Hc Hat HO]
  · isplitr; · iapply (facts_bar m c); iexact HK
    isplitr; · iapply (facts_lev m); iexact HK
    isplitl [Hc]; · iexact Hc
    isplitl [HO]; · iexact HO
    iexact Hat
  rw [landings]
  iintro H
  iapply Hk
  iexact H

/-! ## The sends -/

def qDev (c : Dev nD) : Fin 7 → Dev nD := ![⟨k0_dev8 c, k0_dev8_lt c⟩, ⟨k0_dev10 c, k0_dev10_lt c⟩, ⟨k0_dev12 c, k0_dev12_lt c⟩,
  ⟨k0_dev14 c, k0_dev14_lt c⟩, ⟨k0_dev16 c, k0_dev16_lt c⟩, ⟨k0_dev18 c, k0_dev18_lt c⟩, ⟨k0_dev20 c, k0_dev20_lt c⟩]
theorem qDev_eq (c : Dev nD) (i : Fin 7) : qDev c i = fw i.val c := by
  fin_cases i
  exacts [fw_dev c _ 0 (k0_dev8_eq c) rfl, fw_dev c _ 1 (k0_dev10_eq c) rfl, fw_dev c _ 2 (k0_dev12_eq c) rfl, fw_dev c _ 3 (k0_dev14_eq c) rfl,
    fw_dev c _ 4 (k0_dev16_eq c) rfl, fw_dev c _ 5 (k0_dev18_eq c) rfl, fw_dev c _ 6 (k0_dev20_eq c) rfl]
def sDev (c : Dev nD) : Fin 7 → Dev nD := ![⟨k0_dev9 c, k0_dev9_lt c⟩, ⟨k0_dev11 c, k0_dev11_lt c⟩, ⟨k0_dev13 c, k0_dev13_lt c⟩,
  ⟨k0_dev15 c, k0_dev15_lt c⟩, ⟨k0_dev17 c, k0_dev17_lt c⟩, ⟨k0_dev19 c, k0_dev19_lt c⟩, ⟨k0_dev21 c, k0_dev21_lt c⟩]
theorem sDev_eq (c : Dev nD) (i : Fin 7) : sDev c i = fw i.val c := by
  fin_cases i
  exacts [fw_dev c _ 0 (k0_dev9_eq c) rfl, fw_dev c _ 1 (k0_dev11_eq c) rfl, fw_dev c _ 2 (k0_dev13_eq c) rfl, fw_dev c _ 3 (k0_dev15_eq c) rfl,
    fw_dev c _ 4 (k0_dev17_eq c) rfl, fw_dev c _ 5 (k0_dev19_eq c) rfl, fw_dev c _ 6 (k0_dev21_eq c) rfl]

/-- The tokens of the four duties that a send step pays. -/
def sendToks (c : Dev nD) (i : Fin 7) : sProp 𝕄 :=
  iprop(dutyTok ER (dCell c (qSendSem i.val i.isLt)) 0 (0 : Fin 7) ∗ dutyTok ER (dCell c (sSendSem i.val i.isLt)) 0 (0 : Fin 7)
    ∗ dutyTok ER (dCell (fw i.val c) (qRecvSem i.val i.isLt)) 0 (0 : Fin 7) ∗ dutyTok ER (dCell (fw i.val c) (sRecvSem i.val i.isLt)) 0 (0 : Fin 7))
def sendIn (c : Dev nD) (i : Fin 7) : sProp 𝕄 :=
  iprop(xFly m c (i.val + 1) (Nat.succ_lt_succ i.isLt) ∗ (xqAny c i.val i.isLt ∗ qsAny c i.val i.isLt) ∗ landing c i ∗ sendToks c i)
def sendOut (c : Dev nD) (i : Fin 7) : sProp 𝕄 :=
  iprop(xOut (F := F) c (i.val + 1) (Nat.succ_lt_succ i.isLt) ∗ cred (tallyAt (dCell c (qSendSem i.val i.isLt)) false NQ) ∗ cred (tallyAt (dCell c (sSendSem i.val i.isLt)) false NS))

theorem sendStep_step (c n n' : Dev nD) (i : Fin 7) (hn : n = fw i.val c) (hn' : n' = fw i.val c) {k : PUnit → KProg (F := F)} {Kt : PUnit → sProp 𝕄} :
    iprop(facts m ∗ sendIn m c i ∗ owesE c (owedSends c (7 - i.val)))
      ⊢ iprop(((sendOut (F := F) c i ∗ owesE c (owedSends c (7 - (i.val + 1)))) -∗ Does c (k ⟨⟩) Kt) -∗ Does c (sendStep c n n' i.val i.isLt >>= k) Kt) := by
  unfold sendStep sendIn landing sendToks sendOut xOut
  simp only [bind_assoc]
  iintro ⟨#HK, ⟨HF, ⟨Hq, Hs⟩, ⟨Hco, Hrs⟩, T1, T2, T3, T4⟩, HO⟩ Hk
  iapply (xWait_step m c (i.val + 1) (Nat.succ_lt_succ i.isLt) (owedSends c (7 - i.val))) $$ [HF HO]
  · isplitl [HF]; · iexact HF
    isplitl [HO]; · iexact HO
    iapply (mayWaits c (7 - i.val)); iapply (facts_lev m); iexact HK
  iintro ⟨HX, Hz, HO⟩
  iapply (quantise_step c i.val i.isLt (xBlk m c (i.val + 1) (Nat.succ_lt_succ i.isLt))) $$ [HX Hq Hs]
  · isplitl [HX]; · iexact HX
    isplitl [Hq] <;> iassumption
  iintro ⟨HX, Hq, Hs⟩
  iapply (qSend_step m c n i.val i.isLt hn) $$ [Hq Hco HO T1 T3]
  · isplitr; · iapply (facts_qSend m c i.isLt); iexact HK
    isplitr; · iapply (facts_qRecv m (fw i.val c) i.isLt); iexact HK
    isplitl [Hq]; · iexact Hq
    isplitl [Hco]; · iexact Hco
    isplitl [HO]; · iexact HO
    isplitl [T1] <;> iassumption
  iintro ⟨C1, HO⟩
  iapply (sSend_step m c n' i.val i.isLt hn') $$ [Hs Hrs HO T2 T4]
  · isplitr; · iapply (facts_sSend m c i.isLt); iexact HK
    isplitr; · iapply (facts_sRecv m (fw i.val c) i.isLt); iexact HK
    isplitl [Hs]; · iexact Hs
    isplitl [Hrs]; · iexact Hrs
    isplitl [HO]; · iexact HO
    isplitl [T2] <;> iassumption
  iintro ⟨C2, HO⟩
  iapply Hk
  rw [show 7 - (i.val + 1) = 6 - i.val from by omega]
  isplitr [HO]
  · isplitl [HX Hz]
    · isplitl [HX] <;> iassumption
    isplitl [C1] <;> iassumption
  iexact HO

theorem sends_phase (c : Dev nD) {k : PUnit → KProg (F := F)} {Kt : PUnit → sProp 𝕄} :
    iprop(facts m ∗ bigSep Finset.univ (sendIn m c) ∗ owesE c (owedSends c 7))
      ⊢ iprop(((bigSep Finset.univ (sendOut (F := F) c) ∗ owesE c 0) -∗ Does c (k ⟨⟩) Kt) -∗ Does c (sends c >>= k) Kt) := by
  unfold sends
  simp only [bind_assoc]
  exact seven c (fun i => sendStep c (qDev c i) (sDev c i) i.val i.isLt) (sendIn m c) (sendOut c) (fun i => owesE c (owedSends c (7 - i))) (facts m)
    (fun i k Kt => sendStep_step m c (qDev c i) (sDev c i) i (qDev_eq c i) (sDev_eq c i))

/-! ## The receives -/

/-- The accumulator after the device's own product and the first `n` received blocks. -/
def accAt (c : Dev nD) : ℕ → FVec F S512x2048 .f32
  | 0 => ownDot (xBlk m c 0 (by decide)) (wBlk m c 0 (by decide))
  | n + 1 => if h : n < 7 then accAdd (gotQ m c n h) (wBlk m c (n + 1) (Nat.succ_lt_succ h)) (accAt c n) (head (gotS m c n h)) else accAt c n

/-- What a device waits for its received block `i` with. -/
def recvIn (c : Dev nD) (i : ℕ) (h : i < 7) : sProp 𝕄 :=
  iprop(cred (tallyAt (dCell c (qRecvSem i h)) true NQ) ∗ cred (tallyAt (dCell c (sRecvSem i h)) true NS)
    ∗ atPos ER (dCell c (qRecvSem i h)) 0 ∅ 0 ∗ atPos ER (dCell c (sRecvSem i h)) 0 ∅ 0)
def recvOut (c : Dev nD) (i : ℕ) (h : i < 7) : sProp 𝕄 :=
  iprop(coAny (F := F) c i h ∗ rsAny c i h ∗ semVal (dCell c (qRecvSem i h)) 0 ∗ semVal (dCell c (sRecvSem i h)) 0)

theorem recvStep_step (c : Dev nD) (i : ℕ) (h : i < 7) (j : ℕ) (hj : j < 3) {k : PUnit → KProg (F := F)} {Kt : PUnit → sProp 𝕄} :
    iprop(facts m ∗ wFly m c (i + 1) (Nat.succ_lt_succ h) j hj ∗ recvIn c i h ∗ accHas c (accAt m c i) ∗ owesE c 0)
      ⊢ iprop(((wIn (F := F) c j hj ∗ recvOut c i h ∗ accHas c (accAt m c (i + 1)) ∗ owesE c 0) -∗ Does c (k ⟨⟩) Kt)
          -∗ Does c (recvStep c i h j hj >>= k) Kt) := by
  unfold recvStep recvIn recvOut wIn
  simp only [bind_assoc]
  iintro ⟨#HK, HF, ⟨C1, C2, P1, P2⟩, HA, HO⟩ Hk
  iapply (wWait_step m c (i + 1) (Nat.succ_lt_succ h) j hj 0) $$ [HF HO]
  · isplitl [HF]; · iexact HF
    isplitl [HO]; · iexact HO
    iapply (mayWaits c 0); iapply (facts_lev m); iexact HK
  iintro ⟨HW, Hv, HO⟩
  iapply (qRecv_step m c i h) $$ [C1 P1 HO]
  · isplitr; · iapply (facts_qRecv m c h); iexact HK
    isplitl [C1]; · iexact C1
    isplitl [HO] <;> iassumption
  iintro ⟨HO, Hq, Z1⟩
  iapply (sRecv_step m c i h) $$ [C2 P2 HO]
  · isplitr; · iapply (facts_sRecv m c h); iexact HK
    isplitl [C2]; · iexact C2
    isplitl [HO] <;> iassumption
  iintro ⟨HO, Hs, Z2⟩
  unfold coGot rsGot
  iapply (accumulate_step c i h j hj (gotQ m c i h) (gotS m c i h) (wBlk m c (i + 1) (Nat.succ_lt_succ h)) (accAt m c i)) $$ [Hq Hs HW HA]
  · isplitl [Hq]; · iexact Hq
    isplitl [Hs]; · iexact Hs
    isplitl [HW] <;> iassumption
  iintro ⟨Hq, Hs, HW, HA⟩
  iapply Hk
  isplitl [HW Hv]; · isplitl [HW] <;> iassumption
  isplitl [Hq Hs Z1 Z2]
  · isplitl [Hq]; · iexact Hq
    isplitl [Hs]; · iexact Hs
    isplitl [Z1] <;> iassumption
  isplitl [HA]
  · rw [show accAt m c (i + 1) = accAdd (gotQ m c i h) (wBlk m c (i + 1) (Nat.succ_lt_succ h)) (accAt m c i) (head (gotS m c i h))
      from dif_pos h]
    iexact HA
  iexact HO

theorem ownStep_step (c : Dev nD) {k : PUnit → KProg (F := F)} {Kt : PUnit → sProp 𝕄} :
    iprop(facts m ∗ xFly m c 0 (by decide) ∗ wFly m c 0 (by decide) 0 (by decide) ∗ accAny c ∗ owesE c 0)
      ⊢ iprop(((xOut (F := F) c 0 (by decide) ∗ wIn (F := F) c 0 (by decide) ∗ accHas c (accAt m c 0) ∗ owesE c 0) -∗ Does c (k ⟨⟩) Kt) -∗ Does c (ownStep c >>= k) Kt) := by
  unfold ownStep xOut wIn
  simp only [bind_assoc]
  iintro ⟨#HK, HX, HW, HA, HO⟩ Hk
  iapply (xWait_step m c 0 _ 0) $$ [HX HO]
  · isplitl [HX]; · iexact HX
    isplitl [HO]; · iexact HO
    iapply (mayWaits c 0); iapply (facts_lev m); iexact HK
  iintro ⟨HX, Hu, HO⟩
  iapply (wWait_step m c 0 _ 0 _ 0) $$ [HW HO]
  · isplitl [HW]; · iexact HW
    isplitl [HO]; · iexact HO
    iapply (mayWaits c 0); iapply (facts_lev m); iexact HK
  iintro ⟨HW, Hv, HO⟩
  iapply (product_step c (xBlk m c 0 (by decide)) (wBlk m c 0 (by decide))) $$ [HX HW HA]
  · isplitl [HX]; · iexact HX
    isplitl [HW] <;> iassumption
  iintro ⟨HX, HW, HA⟩
  iapply Hk
  isplitl [HX Hu]; · isplitl [HX] <;> iassumption
  isplitl [HW Hv]; · isplitl [HW] <;> iassumption
  rw [show accAt m c 0 = ownDot (xBlk m c 0 (by decide)) (wBlk m c 0 (by decide)) from rfl]
  isplitl [HA] <;> iassumption

end Cert.KernelIdeal.Run
end
-- ==== Proof.Finish.lean ====
/-
# The last phases of the kernel

The receives, the last receive with its four output tiles, the waits for the departures and for the output; then the
whole kernel on one device.
-/
module

public import proofs.«01_k».proof.Proof.Phases

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

variable (m : (ℓ : Loc nD τ sig) → Buf (Elt F) ℓ)

/-! ## The receives -/

theorem recvs_phase (c : Dev nD) {k : PUnit → KProg (F := F)} {Kt : PUnit → sProp 𝕄} :
    iprop(facts m ∗ xFly m c 0 (by decide) ∗ (wFly m c 0 (by decide) 0 (by decide) ∗ wFly m c 1 (by decide) 1 (by decide) ∗ wFly m c 2 (by decide) 2 (by decide))
        ∗ (wTok m c 3 ∗ wTok m c 4 ∗ wTok m c 5 ∗ wTok m c 6 ∗ wTok m c 7) ∗ accAny c
        ∗ (recvIn (F := F) c 0 (by decide) ∗ recvIn c 1 (by decide) ∗ recvIn c 2 (by decide) ∗ recvIn c 3 (by decide) ∗ recvIn c 4 (by decide) ∗ recvIn c 5 (by decide))
        ∗ owesE c 0)
      ⊢ iprop(((xOut (F := F) c 0 (by decide) ∗ wFly m c 7 (by decide) 1 (by decide) ∗ wIn (F := F) c 0 (by decide) ∗ wIn (F := F) c 2 (by decide)
            ∗ (recvOut (F := F) c 0 (by decide) ∗ recvOut c 1 (by decide) ∗ recvOut c 2 (by decide) ∗ recvOut c 3 (by decide) ∗ recvOut c 4 (by decide) ∗ recvOut c 5 (by decide))
            ∗ accHas c (accAt m c 6) ∗ owesE c 0)
          -∗ Does c (k ⟨⟩) Kt) -∗ Does c (recvs c >>= k) Kt) := by
  unfold recvs
  simp only [bind_assoc]
  iintro ⟨#HK, HX, ⟨W0, W1, W2⟩, ⟨U3, U4, U5, U6, U7⟩, HA, ⟨R0, R1, R2, R3, R4, R5⟩, HO⟩ Hk
  iapply (ownStep_step m c) $$ [HX W0 HA HO]
  · isplitr; · iexact HK
    isplitl [HX]; · iexact HX
    isplitl [W0]; · iexact W0
    isplitl [HA] <;> iassumption
  unfold wIn
  iintro ⟨HX, ⟨W0, S0⟩, HA, HO⟩
  iapply (wCopy_step m c 3 _ 0 _) $$ [W0 S0 U3]
  · isplitl [W0]; · iexact W0
    isplitl [U3] <;> iassumption
  iintro W0
  iapply (recvStep_step m c 0 _ 1 _) $$ [W1 R0 HA HO]
  · isplitr; · iexact HK
    isplitl [W1]; · iexact W1
    isplitl [R0]; · iexact R0
    isplitl [HA] <;> iassumption
  unfold wIn
  iintro ⟨⟨W1, S1⟩, R0, HA, HO⟩
  iapply (wCopy_step m c 4 _ 1 _) $$ [W1 S1 U4]
  · isplitl [W1]; · iexact W1
    isplitl [U4] <;> iassumption
  iintro W1
  iapply (recvStep_step m c 1 _ 2 _) $$ [W2 R1 HA HO]
  · isplitr; · iexact HK
    isplitl [W2]; · iexact W2
    isplitl [R1]; · iexact R1
    isplitl [HA] <;> iassumption
  unfold wIn
  iintro ⟨⟨W2, S2⟩, R1, HA, HO⟩
  iapply (wCopy_step m c 5 _ 2 _) $$ [W2 S2 U5]
  · isplitl [W2]; · iexact W2
    isplitl [U5] <;> iassumption
  iintro W2
  iapply (recvStep_step m c 2 _ 0 _) $$ [W0 R2 HA HO]
  · isplitr; · iexact HK
    isplitl [W0]; · iexact W0
    isplitl [R2]; · iexact R2
    isplitl [HA] <;> iassumption
  unfold wIn
  iintro ⟨⟨W0, S0⟩, R2, HA, HO⟩
  iapply (wCopy_step m c 6 _ 0 _) $$ [W0 S0 U6]
  · isplitl [W0]; · iexact W0
    isplitl [U6] <;> iassumption
  iintro W0
  iapply (recvStep_step m c 3 _ 1 _) $$ [W1 R3 HA HO]
  · isplitr; · iexact HK
    isplitl [W1]; · iexact W1
    isplitl [R3]; · iexact R3
    isplitl [HA] <;> iassumption
  unfold wIn
  iintro ⟨⟨W1, S1⟩, R3, HA, HO⟩
  iapply (wCopy_step m c 7 _ 1 _) $$ [W1 S1 U7]
  · isplitl [W1]; · iexact W1
    isplitl [U7] <;> iassumption
  iintro W1
  iapply (recvStep_step m c 4 _ 2 _) $$ [W2 R4 HA HO]
  · isplitr; · iexact HK
    isplitl [W2]; · iexact W2
    isplitl [R4]; · iexact R4
    isplitl [HA] <;> iassumption
  unfold wIn
  iintro ⟨⟨W2, S2⟩, R4, HA, HO⟩
  iapply (recvStep_step m c 5 _ 0 _) $$ [W0 R5 HA HO]
  · isplitr; · iexact HK
    isplitl [W0]; · iexact W0
    isplitl [R5]; · iexact R5
    isplitl [HA] <;> iassumption
  unfold wIn
  iintro ⟨⟨W0, S0⟩, R5, HA, HO⟩
  iapply Hk
  isplitl [HX]; · iexact HX
  isplitl [W1]; · iexact W1
  isplitl [W0 S0]; · isplitl [W0] <;> iassumption
  isplitl [W2 S2]; · isplitl [W2] <;> iassumption
  isplitr [HA HO]
  · isplitl [R0]; · iexact R0
    isplitl [R1]; · iexact R1
    isplitl [R2]; · iexact R2
    isplitl [R3]; · iexact R3
    isplitl [R4] <;> iassumption
  isplitl [HA] <;> iassumption

/-! ## The last receive -/

/-- The two loads of the last received block. -/
theorem load_got (c : Dev nD) (q : Vec F S1x512x512 .i8) (s : Vec F S1x8x128 .f32)
    {k : Vec F S1x512x512 .i8 → Vec F S1x1x1 .f32 → KProg (F := F)} {Kt : PUnit → sProp 𝕄} :
    iprop(coHas c 6 (by decide) q ∗ rsHas c 6 (by decide) s)
      ⊢ iprop(((coAny c 6 (by decide) ∗ rsAny c 6 (by decide)) -∗ Does c (k q (head s)) Kt)
          -∗ Does c ((Prog.lift (.load coM (qR 6 (by decide)).toLoadRect (View.loadsAt_vmem h_S1x512x512)) : Prog (TpuEff nD τ sig (Elt F) Λ₀ .tc) _) >>= fun q =>
              (Prog.lift (.load rsM (Rect.unit (s := S7x8x128) ![6, 0, 0] S1x1x1.size (inbS1 (by decide))).toLoadRect (View.loadsAt_vmem h_S1x1x1))
                : Prog (TpuEff nD τ sig (Elt F) Λ₀ .tc) _) >>= fun s => k q s) Kt) := by
  unfold coHas rsHas Does
  iintro ⟨⟨%fq, %hq, Hq⟩, ⟨%fs, %hs, Hs⟩⟩ Hk
  have hs' := (readAt_head 6 (by decide) fs).trans (congrArg head hs)
  sl_exec
  iapply Hk
  unfold coAny rsAny
  isplitl [Hq]; · iexists _; iexact Hq
  iexists _; iexact Hs

/-- The output tile number `h` of device `c`. -/
def resTile (c : Dev nD) (h : ℕ) (hh : h < 4) : Vec F S512x512 .bf16 :=
  outTile h hh (gotQ m c 6 (by decide)) (gotS m c 6 (by decide)) (wBlk m c 7 (by decide)) (accAt m c 6)
/-- What an output tile starts from, and its copy under way. -/
def yIn (c : Dev nD) (h : ℕ) (hh : h < 4) : sProp 𝕄 := iprop(yAny (F := F) c h hh ∗ outAny c h hh ∗ semVal (dCell c (ySem h hh)) 0)
def yGo (c : Dev nD) (h : ℕ) (hh : h < 4) : sProp 𝕄 := yFly c h hh (resTile m c h hh)

theorem res_step (c : Dev nD) (h : ℕ) (hh : h < 4) {k : PUnit → KProg (F := F)} {Kt : PUnit → sProp 𝕄} :
    iprop(wHas c 1 (by decide) (wBlk m c 7 (by decide)) ∗ accHas c (accAt m c 6) ∗ yIn c h hh)
      ⊢ iprop(((wHas c 1 (by decide) (wBlk m c 7 (by decide)) ∗ accHas c (accAt m c 6) ∗ yGo m c h hh) -∗ Does c (k ⟨⟩) Kt)
          -∗ Does c (tile h hh (gotQ m c 6 (by decide)) (head (gotS m c 6 (by decide))) >>= k) Kt) :=
  tile_step c h hh _ _ _ _

theorem last_phase (c : Dev nD) {k : PUnit → KProg (F := F)} {Kt : PUnit → sProp 𝕄} :
    iprop(facts m ∗ wFly m c 7 (by decide) 1 (by decide) ∗ recvIn (F := F) c 6 (by decide) ∗ accHas c (accAt m c 6)
        ∗ (yIn (F := F) c 0 (by decide) ∗ yIn c 1 (by decide) ∗ yIn c 2 (by decide) ∗ yIn c 3 (by decide)) ∗ owesE c 0)
      ⊢ iprop(((wIn (F := F) c 1 (by decide) ∗ recvOut (F := F) c 6 (by decide) ∗ accAny c
            ∗ (yGo m c 0 (by decide) ∗ yGo m c 1 (by decide) ∗ yGo m c 2 (by decide) ∗ yGo m c 3 (by decide)) ∗ owesE c 0)
          -∗ Does c (k ⟨⟩) Kt) -∗ Does c (lastStep c >>= k) Kt) := by
  unfold lastStep recvIn recvOut wIn
  simp only [bind_assoc]
  iintro ⟨#HK, HF, ⟨C1, C2, P1, P2⟩, HA, ⟨Y0, Y1, Y2, Y3⟩, HO⟩ Hk
  iapply (wWait_step m c 7 _ 1 _ 0) $$ [HF HO]
  · isplitl [HF]; · iexact HF
    isplitl [HO]; · iexact HO
    iapply (mayWaits c 0); iapply (facts_lev m); iexact HK
  iintro ⟨HW, Hv, HO⟩
  iapply (qRecv_step m c 6 _) $$ [C1 P1 HO]
  · isplitr; · iapply (facts_qRecv m c (i := 6) _); iexact HK
    isplitl [C1]; · iexact C1
    isplitl [HO] <;> iassumption
  iintro ⟨HO, Hq, Z1⟩
  iapply (sRecv_step m c 6 _) $$ [C2 P2 HO]
  · isplitr; · iapply (facts_sRecv m c (i := 6) _); iexact HK
    isplitl [C2]; · iexact C2
    isplitl [HO] <;> iassumption
  iintro ⟨HO, Hs, Z2⟩
  unfold coGot rsGot
  iapply (load_got c (gotQ m c 6 (by decide)) (gotS m c 6 (by decide))) $$ [Hq Hs]
  · isplitl [Hq] <;> iassumption
  iintro ⟨Hq, Hs⟩
  iapply (res_step m c 0 _) $$ [HW HA Y0]
  · isplitl [HW]; · iexact HW
    isplitl [HA] <;> iassumption
  iintro ⟨HW, HA, Y0⟩
  iapply (res_step m c 1 _) $$ [HW HA Y1]
  · isplitl [HW]; · iexact HW
    isplitl [HA] <;> iassumption
  iintro ⟨HW, HA, Y1⟩
  iapply (res_step m c 2 _) $$ [HW HA Y2]
  · isplitl [HW]; · iexact HW
    isplitl [HA] <;> iassumption
  iintro ⟨HW, HA, Y2⟩
  iapply (res_step m c 3 _) $$ [HW HA Y3]
  · isplitl [HW]; · iexact HW
    isplitl [HA] <;> iassumption
  iintro ⟨HW, HA, Y3⟩
  unfold wHas accHas
  icases HW with ⟨%fw, -, HW⟩
  icases HA with ⟨%fa, -, HA⟩
  iapply Hk
  isplitl [HW Hv]
  · isplitl [HW]; · unfold wAny; iexists _; iexact HW
    iexact Hv
  isplitl [Hq Hs Z1 Z2]
  · isplitl [Hq]; · iexact Hq
    isplitl [Hs]; · iexact Hs
    isplitl [Z1] <;> iassumption
  isplitl [HA]; · unfold accAny; iexists _; iexact HA
  isplitr [HO]
  · isplitl [Y0]; · iexact Y0
    isplitl [Y1]; · iexact Y1
    isplitl [Y2] <;> iassumption
  iexact HO

/-! ## The departures and the output -/

/-- What a device waits for the departures of step `i` with, and what it has then. -/
def drainIn (c : Dev nD) (i : ℕ) (h : i < 7) : sProp 𝕄 :=
  iprop(cred (tallyAt (dCell c (qSendSem i h)) false NQ) ∗ cred (tallyAt (dCell c (sSendSem i h)) false NS)
    ∗ atPos ER (dCell c (qSendSem i h)) 0 ∅ 0 ∗ atPos ER (dCell c (sSendSem i h)) 0 ∅ 0)
def drainOut (c : Dev nD) (i : ℕ) (h : i < 7) : sProp 𝕄 :=
  iprop(xqAny (F := F) c i h ∗ qsAny c i h ∗ semVal (dCell c (qSendSem i h)) 0 ∗ semVal (dCell c (sSendSem i h)) 0)
def yOut (c : Dev nD) (h : ℕ) (hh : h < 4) : sProp 𝕄 :=
  iprop(outHas c h hh (resTile m c h hh) ∗ yAny c h hh ∗ semVal (dCell c (ySem h hh)) 0)

theorem drains_phase (c : Dev nD) {Kt : PUnit → sProp 𝕄} :
    iprop(facts m ∗ (bigSep Finset.univ fun i : Fin 7 => drainIn (F := F) c i.val i.isLt)
        ∗ (yGo m c 0 (by decide) ∗ yGo m c 1 (by decide) ∗ yGo m c 2 (by decide) ∗ yGo m c 3 (by decide)) ∗ owesE c 0)
      ⊢ iprop((((bigSep Finset.univ fun i : Fin 7 => drainOut (F := F) c i.val i.isLt)
            ∗ (yOut m c 0 (by decide) ∗ yOut m c 1 (by decide) ∗ yOut m c 2 (by decide) ∗ yOut m c 3 (by decide)) ∗ owesE c 0)
          -∗ Kt ⟨⟩) -∗ Does c drains Kt) := by
  have e : drains (F := F) = (drainStep 0 (by decide) >>= fun _ => drainStep 1 (by decide) >>= fun _ => drainStep 2 (by decide) >>= fun _ => drainStep 3 (by decide)
      >>= fun _ => drainStep 4 (by decide) >>= fun _ => drainStep 5 (by decide) >>= fun _ => drainStep 6 (by decide) >>= fun _ => yWait 0 (by decide)
      >>= fun _ => yWait 1 (by decide) >>= fun _ => yWait 2 (by decide) >>= fun _ => yWait 3 (by decide) >>= fun _ => pure ⟨⟩) := by
    unfold drains
    simp only [bind_pure_unit]
  rw [e]
  iintro ⟨#HK, HD, ⟨Y0, Y1, Y2, Y3⟩, HO⟩ Hk
  iapply (seven c (fun i => drainStep i.val i.isLt) (fun i => drainIn (F := F) c i.val i.isLt) (fun i => drainOut (F := F) c i.val i.isLt)
      (fun _ => owesE c 0) (facts m)
      (fun i k Kt => by
        unfold drainIn drainOut
        iintro ⟨#HK, ⟨C1, C2, P1, P2⟩, HO⟩ Hk
        iapply (drain_step m c i.val i.isLt) $$ [C1 C2 P1 P2 HO]
        · isplitr; · iapply (facts_qSend m c i.isLt); iexact HK
          isplitl [C1]; · iexact C1
          isplitl [P1]; · iexact P1
          isplitr; · iapply (facts_sSend m c i.isLt); iexact HK
          isplitl [C2]; · iexact C2
          isplitl [P2] <;> iassumption
        iintro ⟨HO, Hq, Z1, Hs, Z2⟩
        iapply Hk
        isplitr [HO]
        · isplitl [Hq]; · iexact Hq
          isplitl [Hs]; · iexact Hs
          isplitl [Z1] <;> iassumption
        iexact HO)) $$ [HD HO]
  · isplitr; · iexact HK
    isplitl [HD] <;> iassumption
  iintro ⟨HD, HO⟩
  unfold yGo yOut
  iapply (yWait_step c 0 _ (resTile m c 0 (by decide))) $$ [Y0 HO]
  · isplitl [Y0] <;> iassumption
  iintro ⟨O0, Y0, V0, HO⟩
  iapply (yWait_step c 1 _ (resTile m c 1 (by decide))) $$ [Y1 HO]
  · isplitl [Y1] <;> iassumption
  iintro ⟨O1, Y1, V1, HO⟩
  iapply (yWait_step c 2 _ (resTile m c 2 (by decide))) $$ [Y2 HO]
  · isplitl [Y2] <;> iassumption
  iintro ⟨O2, Y2, V2, HO⟩
  iapply (yWait_step c 3 _ (resTile m c 3 (by decide))) $$ [Y3 HO]
  · isplitl [Y3] <;> iassumption
  iintro ⟨O3, Y3, V3, HO⟩
  unfold Does
  rw [wp_pure]
  imodintro
  iapply Hk
  isplitl [HD]; · iexact HD
  isplitr [HO]
  · isplitl [O0 Y0 V0]; · isplitl [O0]; · iexact O0
                          isplitl [Y0] <;> iassumption
    isplitl [O1 Y1 V1]; · isplitl [O1]; · iexact O1
                          isplitl [Y1] <;> iassumption
    isplitl [O2 Y2 V2]; · isplitl [O2]; · iexact O2
                          isplitl [Y2] <;> iassumption
    isplitl [O3]; · iexact O3
    isplitl [Y3] <;> iassumption
  iexact HO

end Cert.KernelIdeal.Run
end
-- ==== Proof.Whole.lean ====
/-
# The kernel on one device

From a device's slots, counters, shares and tokens to the same slots back, the output tiles computed and every
counter at zero.
-/
module

public import proofs.«01_k».proof.Proof.Finish

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

variable (m : (ℓ : Loc nD τ sig) → Buf (Elt F) ℓ)

/-- The token of the duty that signal number `i` of device `c` pays. -/
def barTok (c : Dev nD) (i : Fin 7) : sProp 𝕄 := dutyTok ER (barCell (fw i.val c)) 0 i
/-- A device's positions at its two departure cells of step `i`. -/
def sendPos (c : Dev nD) (i : Fin 7) : sProp 𝕄 :=
  iprop(atPos ER (dCell c (qSendSem i.val i.isLt)) 0 ∅ 0 ∗ atPos ER (dCell c (sSendSem i.val i.isLt)) 0 ∅ 0)

/-- The ghost state that a device starts from. -/
def ghost (c : Dev nD) : sProp 𝕄 :=
  iprop(facts m ∗ bigSep Finset.univ (barTok (F := F) c) ∗ bigSep Finset.univ (sendToks (F := F) c)
    ∗ (bigSep Finset.univ fun i : Fin 7 => recvIn (F := F) c i.val i.isLt) ∗ bigSep Finset.univ (sendPos (F := F) c)
    ∗ cred (tallyAt (barCell c) true 7) ∗ atPos ER (barCell c) 0 ∅ 0)
/-- The slots, counters and shares that it starts from. -/
def room (c : Dev nD) : sProp 𝕄 :=
  iprop((xIn m c 0 (by decide) ∗ bigSep Finset.univ fun i : Fin 7 => xIn m c (i.val + 1) (Nat.succ_lt_succ i.isLt))
    ∗ (wIn (F := F) c 0 (by decide) ∗ wIn c 1 (by decide) ∗ wIn c 2 (by decide))
    ∗ ((wTok m c 0 ∗ wTok m c 1 ∗ wTok m c 2) ∗ wTok m c 3 ∗ wTok m c 4 ∗ wTok m c 5 ∗ wTok m c 6 ∗ wTok m c 7)
    ∗ (bigSep Finset.univ fun i : Fin 7 => iprop(xqAny (F := F) c i.val i.isLt ∗ qsAny c i.val i.isLt))
    ∗ (bigSep Finset.univ fun i : Fin 7 => slots (F := F) c i.val i.isLt) ∗ accAny c
    ∗ (yIn (F := F) c 0 (by decide) ∗ yIn c 1 (by decide) ∗ yIn c 2 (by decide) ∗ yIn c 3 (by decide)))
/-- What it ends with. -/
def roomOut (c : Dev nD) : sProp 𝕄 :=
  iprop((xOut (F := F) c 0 (by decide) ∗ bigSep Finset.univ fun i : Fin 7 => xOut (F := F) c (i.val + 1) (Nat.succ_lt_succ i.isLt))
    ∗ (wIn (F := F) c 0 (by decide) ∗ wIn c 1 (by decide) ∗ wIn c 2 (by decide))
    ∗ (bigSep Finset.univ fun i : Fin 7 => drainOut (F := F) c i.val i.isLt)
    ∗ (bigSep Finset.univ fun i : Fin 7 => recvOut (F := F) c i.val i.isLt) ∗ accAny c
    ∗ (yOut m c 0 (by decide) ∗ yOut m c 1 (by decide) ∗ yOut m c 2 (by decide) ∗ yOut m c 3 (by decide))
    ∗ semVal (barCell c) 0)

theorem sep_pair (Φ Ψ : Fin 7 → sProp 𝕄) : iprop(bigSep Finset.univ Φ ∗ bigSep Finset.univ Ψ) ⊢ bigSep Finset.univ fun i => iprop(Φ i ∗ Ψ i) :=
  Entails.of_eq (bigSep_sep' _ _ _).symm
theorem sep_unpair (Φ Ψ : Fin 7 → sProp 𝕄) : (bigSep Finset.univ fun i => iprop(Φ i ∗ Ψ i)) ⊢ iprop(bigSep Finset.univ Φ ∗ bigSep Finset.univ Ψ) :=
  Entails.of_eq (bigSep_sep' _ _ _)

theorem sendIns (c : Dev nD) :
    iprop((bigSep Finset.univ fun i : Fin 7 => xFly m c (i.val + 1) (Nat.succ_lt_succ i.isLt))
        ∗ (bigSep Finset.univ fun i : Fin 7 => iprop(xqAny (F := F) c i.val i.isLt ∗ qsAny c i.val i.isLt))
        ∗ bigSep Finset.univ (landing (F := F) c) ∗ bigSep Finset.univ (sendToks (F := F) c)) ⊢ bigSep Finset.univ (sendIn m c) :=
  (sep_mono_right ((sep_mono_right (sep_pair _ _)).trans (sep_pair _ _))).trans (sep_pair _ _)
theorem sendOuts (c : Dev nD) :
    iprop(bigSep Finset.univ (sendOut (F := F) c) ∗ bigSep Finset.univ (sendPos (F := F) c))
      ⊢ iprop((bigSep Finset.univ fun i : Fin 7 => xOut (F := F) c (i.val + 1) (Nat.succ_lt_succ i.isLt))
          ∗ bigSep Finset.univ fun i : Fin 7 => drainIn (F := F) c i.val i.isLt) := by
  have h : ∀ i ∈ (Finset.univ : Finset (Fin 7)), iprop(sendOut (F := F) c i ∗ sendPos (F := F) c i)
      ⊢ iprop(xOut (F := F) c (i.val + 1) (Nat.succ_lt_succ i.isLt) ∗ drainIn (F := F) c i.val i.isLt) := fun i _ => by
    unfold sendOut sendPos drainIn
    iintro ⟨⟨HX, C1, C2⟩, P1, P2⟩
    isplitl [HX]; · iexact HX
    isplitl [C1]; · iexact C1
    isplitl [C2]; · iexact C2
    isplitl [P1] <;> iassumption
  exact (sep_pair _ _).trans ((bigSep_mono h).trans (sep_unpair _ _))

/-- The whole kernel on device `c`. -/
theorem kernel_does (c : Dev nD) (Kt : PUnit → sProp 𝕄) :
    iprop((ghost m c ∗ room m c ∗ owesE c (owedBar c 7)) ∗ ((roomOut m c ∗ owesE c 0) -∗ Kt ⟨⟩)) ⊢ Does c (kernel (F := F)) Kt := by
  have ek : Does c (kernel (F := F)) Kt
      = Does c (copies c >>= fun _ => barrier c >>= fun _ => sends c >>= fun _ => recvs c >>= fun _ => lastStep c >>= fun _ => drains) Kt := by
    unfold kernel Does
    simp only [Prog.lift, Prog.bind_op, Prog.bind_ret, wp_deviceId]
  rw [ek]
  unfold ghost room
  iintro ⟨⟨⟨#HK, HBT, HST, HRI, HSP, HcB, HaB⟩, ⟨⟨HX0, HX⟩, HW, ⟨⟨U0, U1, U2⟩, HU⟩, HQ, HSl, HA, HY⟩, HO⟩, Hk⟩
  iapply (copies_phase m c) $$ [HX0 HX HW U0 U1 U2]
  · isplitl [HX0]; · iexact HX0
    isplitl [HX]; · iexact HX
    isplitl [HW]; · iexact HW
    isplitl [U0]; · iexact U0
    isplitl [U1] <;> iassumption
  iintro ⟨HX0, HX, HW0, HW1, HW2⟩
  ihave HS := (sep_pair (barTok (F := F) c) (fun i => slots (F := F) c i.val i.isLt)) $$ [HBT HSl]
  · isplitl [HBT] <;> iassumption
  iapply (barrier_phase m c) $$ [HS HcB HaB HO]
  · isplitr; · iexact HK
    isplitl [HS]; · unfold sigIn; unfold barTok; iexact HS
    isplitl [HcB]; · iexact HcB
    isplitl [HaB] <;> iassumption
  iintro ⟨HO, HzB, HL⟩
  ihave HS := (sendIns m c) $$ [HX HQ HL HST]
  · isplitl [HX]; · iexact HX
    isplitl [HQ]; · iexact HQ
    isplitl [HL] <;> iassumption
  iapply (sends_phase m c) $$ [HS HO]
  · isplitr; · iexact HK
    isplitl [HS] <;> iassumption
  iintro ⟨HS, HO⟩
  ihave HS := (sendOuts c) $$ [HS HSP]
  · isplitl [HS] <;> iassumption
  icases HS with ⟨HX, HD⟩
  ihave HRI := (Entails.of_eq (bigSep_nat7 (recvIn (F := F) c))) $$ HRI
  icases HRI with ⟨R0, R1, R2, R3, R4, R5, R6⟩
  iapply (recvs_phase m c) $$ [HX0 HW0 HW1 HW2 HU HA R0 R1 R2 R3 R4 R5 HO]
  · isplitr; · iexact HK
    isplitl [HX0]; · iexact HX0
    isplitl [HW0 HW1 HW2]
    · isplitl [HW0]; · iexact HW0
      isplitl [HW1] <;> iassumption
    isplitl [HU]; · iexact HU
    isplitl [HA]; · iexact HA
    isplitr [HO]
    · isplitl [R0]; · iexact R0
      isplitl [R1]; · iexact R1
      isplitl [R2]; · iexact R2
      isplitl [R3]; · iexact R3
      isplitl [R4] <;> iassumption
    iexact HO
  iintro ⟨HX0, HW1, HW0, HW2, ⟨R0, R1, R2, R3, R4, R5⟩, HA, HO⟩
  iapply (last_phase m c) $$ [HW1 R6 HA HY HO]
  · isplitr; · iexact HK
    isplitl [HW1]; · iexact HW1
    isplitl [R6]; · iexact R6
    isplitl [HA]; · iexact HA
    isplitl [HY] <;> iassumption
  iintro ⟨HW1, R6, HA, HY, HO⟩
  iapply (drains_phase m c) $$ [HD HY HO]
  · isplitr; · iexact HK
    isplitl [HD]; · iexact HD
    isplitl [HY] <;> iassumption
  iintro ⟨HD, HY, HO⟩
  iapply Hk
  isplitr [HO]
  · unfold roomOut
    isplitl [HX0 HX]; · isplitl [HX0] <;> iassumption
    isplitl [HW0 HW1 HW2]
    · isplitl [HW0]; · iexact HW0
      isplitl [HW1] <;> iassumption
    isplitl [HD]; · iexact HD
    isplitl [R0 R1 R2 R3 R4 R5 R6]
    · rw [bigSep_nat7 (recvOut (F := F) c)]
      isplitl [R0]; · iexact R0
      isplitl [R1]; · iexact R1
      isplitl [R2]; · iexact R2
      isplitl [R3]; · iexact R3
      isplitl [R4]; · iexact R4
      isplitl [R5] <;> iassumption
    isplitl [HA]; · iexact HA
    isplitl [HY] <;> iassumption
  iexact HO

end Cert.KernelIdeal.Run
end
-- ==== Proof.Slots.lean ====
/-
# Buffers cut into slots

A buffer held whole is held slot by slot, and slots held at any contents join to the buffer; the four column blocks of
the output join to the whole output with the contents of each.
-/
module

public import proofs.«01_k».proof.Proof.Whole
public import Idealize.ShloMosaic.Lib.Ring

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

/-! ## Slabs cover their buffer -/

/-- The slabs of a buffer of `n` slabs are disjoint. -/
theorem slab_disjoint {n a b : ℕ} {i j : ℕ} (hij : i ≠ j) {hi hj} :
    Disjoint (Rect.unit (s := (⟨3, ![n, a, b]⟩ : Shape)) ![i, 0, 0] ![1, a, b] hi).set (Rect.unit (s := (⟨3, ![n, a, b]⟩ : Shape)) ![j, 0, 0] ![1, a, b] hj).set :=
  Rect.unit_disjoint 0 (by show i + 1 ≤ j ∨ j + 1 ≤ i; omega)
/-- Each element lies in the slab of its first coordinate. -/
theorem slab_cover {n a b : ℕ} (x : (⟨3, ![n, a, b]⟩ : Shape).Idx) {h} :
    x ∈ (Rect.unit (s := (⟨3, ![n, a, b]⟩ : Shape)) ![(x 0).val, 0, 0] ![1, a, b] h).set := by
  rw [Rect.mem_set_unit]
  intro t
  fin_cases t
  · exact ⟨Nat.le_refl _, Nat.lt_succ_self _⟩
  · exact ⟨Nat.zero_le _, by have := (x 1).isLt; show (x 1).val < 0 + a; rw [Nat.zero_add]; exact this⟩
  · exact ⟨Nat.zero_le _, by have := (x 2).isLt; show (x 2).val < 0 + b; rw [Nat.zero_add]; exact this⟩

/-! ## Cut and join -/

/-- The slot of a whole buffer at a set of elements, at any contents. -/
abbrev slotAny (b : Ref sig .tc) (c : Dev nD) (K : Finset b.ty.shape.Idx) : sProp 𝕄 :=
  iprop(∃ f, (Memref.whole b).view.loc (c : Thread nD τ) ↦[(Memref.whole b).view.setOn K]{fullShare} f)

section Cut
variable (b : Ref sig .tc) (c : Dev nD) {n : ℕ} (K : Fin n → Finset b.ty.shape.Idx)
  (hd : ∀ i j, i ≠ j → Disjoint (K i) (K j)) (hc : ∀ x, ∃ i, x ∈ K i)

include hd in
theorem cut_disjoint (i j : Fin n) (h : i ≠ j) : Disjoint ((Memref.whole b).view.setOn (K i)) ((Memref.whole b).view.setOn (K j)) :=
  View.disjoint_setOn _ (hd i j h)
include hc in
theorem cut_cover : (Finset.univ.biUnion fun i : Fin n => (Memref.whole b).view.setOn (K i)) = Finset.univ := by
  refine Finset.eq_univ_iff_forall.mpr fun x => ?_
  obtain ⟨i, hi⟩ := hc x
  exact Finset.mem_biUnion.mpr ⟨i, Finset.mem_univ _, (View.mem_setOn (v := (Memref.whole b).view)).mpr hi⟩

include hd hc in
theorem cut : (iprop(∃ f : Buf (Elt F) ((c : Thread nD τ).loc b), ((c : Thread nD τ).loc b) ↦{fullShare} f) : sProp 𝕄)
    ⊢ bigSep Finset.univ fun i : Fin n => slotAny b c (K i) := by
  have h (f : Buf (Elt F) ((c : Thread nD τ).loc b)) : (((c : Thread nD τ).loc b) ↦{fullShare} f : sProp 𝕄)
      ⊢ bigSep Finset.univ fun i : Fin n => slotAny b c (K i) := by
    rw [Ring.pointsTo_blocks (fun i : Fin n => (Memref.whole b).view.setOn (K i)) (cut_disjoint b K hd) (cut_cover b K hc) f]
    have e : ∀ i ∈ (Finset.univ : Finset (Fin n)), (((c : Thread nD τ).loc b) ↦[(Memref.whole b).view.setOn (K i)]{fullShare} f : sProp 𝕄)
        ⊢ iprop(∃ f, (Memref.whole b).view.loc (c : Thread nD τ) ↦[(Memref.whole b).view.setOn (K i)]{fullShare} f) := fun i _ => by
      iintro H
      iexists f
      iexact H
    exact bigSep_mono e
  iintro ⟨%f, H⟩
  iapply (h f); iexact H

include hd hc in
theorem join (f₀ : Buf (Elt F) ((c : Thread nD τ).loc b)) : (bigSep Finset.univ fun i : Fin n => slotAny b c (K i))
    ⊢ (iprop(∃ f : Buf (Elt F) ((c : Thread nD τ).loc b), ((c : Thread nD τ).loc b) ↦{fullShare} f) : sProp 𝕄) := by
  have h := Ring.pointsTo_blocks_join_exists (Ix := Bool) (Val := Elt F) (Name := ℕ) (U := UU) (Lvl := ℕ) (ℓ := (c : Thread nD τ).loc b) (q := fullShare)
    (fun i : Fin n => (Memref.whole b).view.setOn (K i)) (cut_disjoint b K hd) (cut_cover b K hc) f₀
  exact h

end Cut

/-! ## The buffers -/

abbrev kX (i : Fin 8) : Finset S8x512x512.Idx := (xfR i.val i.isLt).set
abbrev kQ (i : Fin 7) : Finset S7x512x512.Idx := (qR i.val i.isLt).set
abbrev kS (i : Fin 7) : Finset S7x8x128.Idx := (sR i.val i.isLt).set
abbrev kW (i : Fin 3) : Finset S3x512x2048.Idx := (wbR i.val i.isLt).set
abbrev kY (i : Fin 4) : Finset S4x512x512.Idx := (yR i.val i.isLt).set
abbrev kO (i : Fin 4) : Finset S512x2048.Idx := (outR i.val i.isLt).set

theorem ne_val {n : ℕ} {i j : Fin n} (h : i ≠ j) : i.val ≠ j.val := fun e => h (Fin.ext e)
theorem kX_d (i j : Fin 8) (h : i ≠ j) : Disjoint (kX i) (kX j) := slab_disjoint (ne_val h)
theorem kQ_d (i j : Fin 7) (h : i ≠ j) : Disjoint (kQ i) (kQ j) := slab_disjoint (ne_val h)
theorem kS_d (i j : Fin 7) (h : i ≠ j) : Disjoint (kS i) (kS j) := slab_disjoint (ne_val h)
theorem kW_d (i j : Fin 3) (h : i ≠ j) : Disjoint (kW i) (kW j) := slab_disjoint (ne_val h)
theorem kY_d (i j : Fin 4) (h : i ≠ j) : Disjoint (kY i) (kY j) := slab_disjoint (ne_val h)
theorem kX_c (x : S8x512x512.Idx) : ∃ i, x ∈ kX i := ⟨⟨(x 0).val, (x 0).isLt⟩, slab_cover x⟩
theorem kQ_c (x : S7x512x512.Idx) : ∃ i, x ∈ kQ i := ⟨⟨(x 0).val, (x 0).isLt⟩, slab_cover x⟩
theorem kS_c (x : S7x8x128.Idx) : ∃ i, x ∈ kS i := ⟨⟨(x 0).val, (x 0).isLt⟩, slab_cover x⟩
theorem kW_c (x : S3x512x2048.Idx) : ∃ i, x ∈ kW i := ⟨⟨(x 0).val, (x 0).isLt⟩, slab_cover x⟩
theorem kY_c (x : S4x512x512.Idx) : ∃ i, x ∈ kY i := ⟨⟨(x 0).val, (x 0).isLt⟩, slab_cover x⟩
theorem kO_d (i j : Fin 4) (h : i ≠ j) : Disjoint (kO i) (kO j) :=
  Rect.unit_disjoint 1 (by have := ne_val h; show 512 * i.val + 512 ≤ 512 * j.val ∨ 512 * j.val + 512 ≤ 512 * i.val; omega)
theorem kO_c (x : S512x2048.Idx) : ∃ i, x ∈ kO i := by
  have h1 : (x 1).val < 2048 := (x 1).isLt
  have h0 : (x 0).val < 512 := (x 0).isLt
  refine ⟨⟨(x 1).val / 512, by omega⟩, ?_⟩
  rw [Rect.mem_set_unit]
  intro t
  fin_cases t
  · exact ⟨Nat.zero_le _, by show (x 0).val < 0 + 512; omega⟩
  · exact ⟨by show 512 * ((x 1).val / 512) ≤ (x 1).val; omega, by show (x 1).val < 512 * ((x 1).val / 512) + 512; omega⟩

variable (m : (ℓ : Loc nD τ sig) → Buf (Elt F) ℓ)

/-- The output whole, its four column blocks the four tiles. -/
def outWhole (c : Dev nD) : sProp 𝕄 :=
  iprop(∃ g : Buf (Elt F) ((c : Thread nD τ).loc main_v1), ⌜∀ (h : ℕ) (hh : h < 4), outM.view.readAt (Elt F) (outR h hh).toLoadRect g = resTile m c h hh⌝
    ∗ ((c : Thread nD τ).loc main_v1) ↦{fullShare} g)

theorem out_join (c : Dev nD) :
    iprop(outHas c 0 (by decide) (resTile m c 0 (by decide)) ∗ outHas c 1 (by decide) (resTile m c 1 (by decide))
        ∗ outHas c 2 (by decide) (resTile m c 2 (by decide)) ∗ outHas c 3 (by decide) (resTile m c 3 (by decide))) ⊢ outWhole m c := by
  unfold outHas outWhole
  iintro ⟨⟨%f0, %h0, H0⟩, ⟨%f1, %h1, H1⟩, ⟨%f2, %h2, H2⟩, ⟨%f3, %h3, H3⟩⟩
  have hj := pointsTo_biUnion_join (Ix := Bool) (Val := Elt F) (Name := ℕ) (U := UU) (Lvl := ℕ) (ℓ := (c : Thread nD τ).loc main_v1) (q := fullShare) Finset.univ
    (fun i : Fin 4 => outM.view.setOn (kO i)) ![f0, f1, f2, f3] f0 (fun i _ j _ h => cut_disjoint main_v1 kO kO_d i j h)
  rw [cut_cover main_v1 kO kO_c, bigSep_fin4] at hj
  ihave H := hj $$ [H0 H1 H2 H3]
  · isplitl [H0]; · iexact H0
    isplitl [H1]; · iexact H1
    isplitl [H2]; · iexact H2
    iexact H3
  icases H with ⟨%g, %hg, H⟩
  iexists g
  isplitr
  · ipureintro
    intro h hh
    refine (View.readAt_congr (v := outM.view) (g := (![f0, f1, f2, f3] : Fin 4 → _) ⟨h, hh⟩) (hg ⟨h, hh⟩ (Finset.mem_univ _))).trans ?_
    interval_cases h
    exacts [h0, h1, h2, h3]
  iexact H

end Cert.KernelIdeal.Run
end
-- ==== Proof.Room.lean ====
/-
# A device's buffers and counters

The scratch buffers, the result array, the counters and the shares of the arguments, dealt into what the kernel
starts from, and put together again from what it ends with.
-/
module

public import proofs.«01_k».proof.Proof.Slots

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

/-! ## Families -/

theorem pairUp {n : ℕ} (Φ Ψ : Fin n → sProp 𝕄) : iprop(bigSep Finset.univ Φ ∗ bigSep Finset.univ Ψ) ⊢ bigSep Finset.univ fun i => iprop(Φ i ∗ Ψ i) :=
  Entails.of_eq (bigSep_sep' _ _ _).symm
theorem unpair {n : ℕ} (Φ Ψ : Fin n → sProp 𝕄) : (bigSep Finset.univ fun i => iprop(Φ i ∗ Ψ i)) ⊢ iprop(bigSep Finset.univ Φ ∗ bigSep Finset.univ Ψ) :=
  Entails.of_eq (bigSep_sep' _ _ _)
/-- The first of eight apart from the other seven. -/
theorem first_rest (Φ : (i : ℕ) → i < 8 → sProp 𝕄) : (bigSep Finset.univ fun i : Fin 8 => Φ i.val i.isLt)
    = iprop(Φ 0 (by decide) ∗ bigSep Finset.univ fun i : Fin 7 => Φ (i.val + 1) (Nat.succ_lt_succ i.isLt)) := by
  rw [bigSep_fin8, bigSep_fin7]; rfl

variable (m : (ℓ : Loc nD τ sig) → Buf (Elt F) ℓ)

/-- A whole buffer at any contents. -/
abbrev anyOf (b : Ref sig .tc) (c : Dev nD) : sProp 𝕄 := iprop(∃ f : Buf (Elt F) ((c : Thread nD τ).loc b), ((c : Thread nD τ).loc b) ↦{fullShare} f)
/-- A counter of device `c` at zero. -/
abbrev zero (c : Dev nD) (s : DmaSem sig) : sProp 𝕄 := semVal (dCell c s) 0

/-! ## In -/

theorem xIns (c : Dev nD) : iprop(anyOf (F := F) cc0_scratch0 c ∗ (bigSep Finset.univ fun i : Fin 8 => xTok m c i.val)
      ∗ bigSep Finset.univ fun i : Fin 8 => zero (F := F) c (xSem i.val i.isLt))
    ⊢ iprop(xIn m c 0 (by decide) ∗ bigSep Finset.univ fun i : Fin 7 => xIn m c (i.val + 1) (Nat.succ_lt_succ i.isLt)) := by
  rw [← first_rest (xIn m c)]
  exact (BIClass.sep_mono (cut cc0_scratch0 c kX kX_d kX_c) (pairUp _ _)).trans (pairUp _ _)

theorem wIns (c : Dev nD) : iprop(anyOf (F := F) cc0_scratch5 c ∗ bigSep Finset.univ fun i : Fin 3 => zero (F := F) c (wSem i.val i.isLt))
    ⊢ iprop(wIn (F := F) c 0 (by decide) ∗ wIn c 1 (by decide) ∗ wIn c 2 (by decide)) := by
  have e := bigSep_nat3 (wIn (F := F) c)
  rw [← e]
  exact (sep_mono_left (cut cc0_scratch5 c kW kW_d kW_c)).trans (pairUp _ _)

theorem qIns (c : Dev nD) : iprop(anyOf (F := F) cc0_scratch1 c ∗ anyOf (F := F) cc0_scratch2 c)
    ⊢ bigSep Finset.univ fun i : Fin 7 => iprop(xqAny (F := F) c i.val i.isLt ∗ qsAny c i.val i.isLt) :=
  (BIClass.sep_mono (cut cc0_scratch1 c kQ kQ_d kQ_c) (cut cc0_scratch2 c kS kS_d kS_c)).trans (pairUp _ _)

theorem slots_eq (c : Dev nD) : (bigSep Finset.univ fun i : Fin 7 => iprop(coAny (F := F) c i.val i.isLt ∗ rsAny c i.val i.isLt))
    = bigSep Finset.univ fun i : Fin 7 => slots (F := F) c i.val i.isLt := by
  rw [bigSep_univ_equiv Fin.revPerm]
  refine bigSep_congr fun i _ => ?_
  fin_cases i <;> rfl
theorem slotsIn (c : Dev nD) : iprop(anyOf (F := F) cc0_scratch3 c ∗ anyOf (F := F) cc0_scratch4 c)
    ⊢ bigSep Finset.univ fun i : Fin 7 => slots (F := F) c i.val i.isLt := by
  rw [← slots_eq]
  exact (BIClass.sep_mono (cut cc0_scratch3 c kQ kQ_d kQ_c) (cut cc0_scratch4 c kS kS_d kS_c)).trans (pairUp _ _)

theorem yIns (c : Dev nD) : iprop(anyOf (F := F) cc0_scratch7 c ∗ anyOf (F := F) main_v1 c ∗ bigSep Finset.univ fun i : Fin 4 => zero (F := F) c (ySem i.val i.isLt))
    ⊢ iprop(yIn (F := F) c 0 (by decide) ∗ yIn c 1 (by decide) ∗ yIn c 2 (by decide) ∗ yIn c 3 (by decide)) := by
  have e := bigSep_nat4 (yIn (F := F) c)
  rw [← e]
  exact (BIClass.sep_mono (cut cc0_scratch7 c kY kY_d kY_c) ((sep_mono_left (cut main_v1 c kO kO_d kO_c)).trans (pairUp _ _))).trans (pairUp _ _)

theorem bigSep_nat8 (Φ : ℕ → sProp 𝕄) : (bigSep Finset.univ fun i : Fin 8 => Φ i.val)
    = iprop(Φ 0 ∗ Φ 1 ∗ Φ 2 ∗ Φ 3 ∗ Φ 4 ∗ Φ 5 ∗ Φ 6 ∗ Φ 7) := bigSep_fin8 _
theorem wToks (c : Dev nD) : (bigSep Finset.univ fun i : Fin 8 => wTok m c i.val)
    ⊢ iprop((wTok m c 0 ∗ wTok m c 1 ∗ wTok m c 2) ∗ wTok m c 3 ∗ wTok m c 4 ∗ wTok m c 5 ∗ wTok m c 6 ∗ wTok m c 7) := by
  have e := bigSep_nat8 (wTok m c)
  rw [e]
  iintro ⟨H0, H1, H2, H3⟩
  isplitr [H3]
  · isplitl [H0]; · iexact H0
    isplitl [H1] <;> iassumption
  iexact H3

/-- The scratch buffers, at any contents. -/
def scratch (c : Dev nD) : sProp 𝕄 :=
  iprop(anyOf (F := F) cc0_scratch0 c ∗ anyOf (F := F) cc0_scratch1 c ∗ anyOf (F := F) cc0_scratch2 c ∗ anyOf (F := F) cc0_scratch3 c
    ∗ anyOf (F := F) cc0_scratch4 c ∗ anyOf (F := F) cc0_scratch5 c ∗ anyOf (F := F) cc0_scratch6 c ∗ anyOf (F := F) cc0_scratch7 c)
/-- The counters of a device's own copies, at zero. -/
def localZeros (c : Dev nD) : sProp 𝕄 :=
  iprop((bigSep Finset.univ fun i : Fin 8 => zero (F := F) c (xSem i.val i.isLt)) ∗ (bigSep Finset.univ fun i : Fin 3 => zero (F := F) c (wSem i.val i.isLt))
    ∗ bigSep Finset.univ fun i : Fin 4 => zero (F := F) c (ySem i.val i.isLt))
/-- The counters of the transfers between devices, at zero. -/
def farZeros (c : Dev nD) : sProp 𝕄 :=
  iprop((bigSep Finset.univ fun i : Fin 7 => zero (F := F) c (qSendSem i.val i.isLt)) ∗ (bigSep Finset.univ fun i : Fin 7 => zero (F := F) c (sSendSem i.val i.isLt))
    ∗ (bigSep Finset.univ fun i : Fin 7 => zero (F := F) c (qRecvSem i.val i.isLt)) ∗ (bigSep Finset.univ fun i : Fin 7 => zero (F := F) c (sRecvSem i.val i.isLt)))
/-- The read shares of the two arguments. -/
def shares (c : Dev nD) : sProp 𝕄 := iprop((bigSep Finset.univ fun i : Fin 8 => xTok m c i.val) ∗ bigSep Finset.univ fun i : Fin 8 => wTok m c i.val)

theorem room_intro (c : Dev nD) : iprop(scratch (F := F) c ∗ localZeros (F := F) c ∗ shares m c ∗ anyOf (F := F) main_v1 c) ⊢ room m c := by
  unfold scratch localZeros shares room
  iintro ⟨⟨S0, S1, S2, S3, S4, S5, S6, S7⟩, ⟨ZX, ZW, ZY⟩, ⟨TX, TW⟩, HO⟩
  isplitl [S0 ZX TX]
  · iapply (xIns m c)
    isplitl [S0]; · iexact S0
    isplitl [TX] <;> iassumption
  isplitl [S5 ZW]
  · iapply (wIns c)
    isplitl [S5] <;> iassumption
  isplitl [TW]; · iapply (wToks m c); iexact TW
  isplitl [S1 S2]
  · iapply (qIns c)
    isplitl [S1] <;> iassumption
  isplitl [S3 S4]
  · iapply (slotsIn c)
    isplitl [S3] <;> iassumption
  isplitl [S6]; · unfold accAny; iexact S6
  iapply (yIns c)
  isplitl [S7]; · iexact S7
  isplitl [HO] <;> iassumption

/-! ## Out -/

include m in
theorem xOuts (c : Dev nD) : iprop(xOut (F := F) c 0 (by decide) ∗ bigSep Finset.univ fun i : Fin 7 => xOut (F := F) c (i.val + 1) (Nat.succ_lt_succ i.isLt))
    ⊢ iprop(anyOf (F := F) cc0_scratch0 c ∗ bigSep Finset.univ fun i : Fin 8 => zero (F := F) c (xSem i.val i.isLt)) := by
  rw [← first_rest (xOut (F := F) c)]
  have h := unpair (F := F) (fun i : Fin 8 => slotAny cc0_scratch0 c (kX i)) (fun i : Fin 8 => zero (F := F) c (xSem i.val i.isLt))
  exact h.trans (sep_mono_left (join cc0_scratch0 c kX kX_d kX_c (m ((c : Thread nD τ).loc cc0_scratch0))))

include m in
theorem wOuts (c : Dev nD) : iprop(wIn (F := F) c 0 (by decide) ∗ wIn c 1 (by decide) ∗ wIn c 2 (by decide))
    ⊢ iprop(anyOf (F := F) cc0_scratch5 c ∗ bigSep Finset.univ fun i : Fin 3 => zero (F := F) c (wSem i.val i.isLt)) := by
  have e := bigSep_nat3 (wIn (F := F) c)
  rw [← e]
  have h := unpair (F := F) (fun i : Fin 3 => slotAny cc0_scratch5 c (kW i)) (fun i : Fin 3 => zero (F := F) c (wSem i.val i.isLt))
  exact h.trans (sep_mono_left (join cc0_scratch5 c kW kW_d kW_c (m ((c : Thread nD τ).loc cc0_scratch5))))

include m in
theorem drainOuts (c : Dev nD) : (bigSep Finset.univ fun i : Fin 7 => drainOut (F := F) c i.val i.isLt)
    ⊢ iprop(anyOf (F := F) cc0_scratch1 c ∗ anyOf (F := F) cc0_scratch2 c
        ∗ (bigSep Finset.univ fun i : Fin 7 => zero (F := F) c (qSendSem i.val i.isLt)) ∗ bigSep Finset.univ fun i : Fin 7 => zero (F := F) c (sSendSem i.val i.isLt)) := by
  have h3 := unpair (F := F) (fun i : Fin 7 => zero (F := F) c (qSendSem i.val i.isLt)) (fun i : Fin 7 => zero (F := F) c (sSendSem i.val i.isLt))
  have h2 := unpair (F := F) (fun i : Fin 7 => slotAny cc0_scratch2 c (kS i))
    (fun i : Fin 7 => iprop(zero (F := F) c (qSendSem i.val i.isLt) ∗ zero (F := F) c (sSendSem i.val i.isLt)))
  have h1 := unpair (F := F) (fun i : Fin 7 => slotAny cc0_scratch1 c (kQ i))
    (fun i : Fin 7 => iprop(slotAny cc0_scratch2 c (kS i) ∗ zero (F := F) c (qSendSem i.val i.isLt) ∗ zero (F := F) c (sSendSem i.val i.isLt)))
  exact h1.trans (BIClass.sep_mono (join cc0_scratch1 c kQ kQ_d kQ_c (m ((c : Thread nD τ).loc cc0_scratch1)))
    (h2.trans (BIClass.sep_mono (join cc0_scratch2 c kS kS_d kS_c (m ((c : Thread nD τ).loc cc0_scratch2))) h3)))

include m in
theorem recvOuts (c : Dev nD) : (bigSep Finset.univ fun i : Fin 7 => recvOut (F := F) c i.val i.isLt)
    ⊢ iprop(anyOf (F := F) cc0_scratch3 c ∗ anyOf (F := F) cc0_scratch4 c
        ∗ (bigSep Finset.univ fun i : Fin 7 => zero (F := F) c (qRecvSem i.val i.isLt)) ∗ bigSep Finset.univ fun i : Fin 7 => zero (F := F) c (sRecvSem i.val i.isLt)) := by
  have h3 := unpair (F := F) (fun i : Fin 7 => zero (F := F) c (qRecvSem i.val i.isLt)) (fun i : Fin 7 => zero (F := F) c (sRecvSem i.val i.isLt))
  have h2 := unpair (F := F) (fun i : Fin 7 => slotAny cc0_scratch4 c (kS i))
    (fun i : Fin 7 => iprop(zero (F := F) c (qRecvSem i.val i.isLt) ∗ zero (F := F) c (sRecvSem i.val i.isLt)))
  have h1 := unpair (F := F) (fun i : Fin 7 => slotAny cc0_scratch3 c (kQ i))
    (fun i : Fin 7 => iprop(slotAny cc0_scratch4 c (kS i) ∗ zero (F := F) c (qRecvSem i.val i.isLt) ∗ zero (F := F) c (sRecvSem i.val i.isLt)))
  exact h1.trans (BIClass.sep_mono (join cc0_scratch3 c kQ kQ_d kQ_c (m ((c : Thread nD τ).loc cc0_scratch3)))
    (h2.trans (BIClass.sep_mono (join cc0_scratch4 c kS kS_d kS_c (m ((c : Thread nD τ).loc cc0_scratch4))) h3)))

theorem yOuts (c : Dev nD) : iprop(yOut m c 0 (by decide) ∗ yOut m c 1 (by decide) ∗ yOut m c 2 (by decide) ∗ yOut m c 3 (by decide))
    ⊢ iprop(outWhole m c ∗ anyOf (F := F) cc0_scratch7 c ∗ bigSep Finset.univ fun i : Fin 4 => zero (F := F) c (ySem i.val i.isLt)) := by
  have e := bigSep_nat4 (yOut m c)
  rw [← e]
  have h2 := unpair (F := F) (fun i : Fin 4 => slotAny cc0_scratch7 c (kY i)) (fun i : Fin 4 => zero (F := F) c (ySem i.val i.isLt))
  have h1 := unpair (F := F) (fun i : Fin 4 => outHas c i.val i.isLt (resTile m c i.val i.isLt))
    (fun i : Fin 4 => iprop(slotAny cc0_scratch7 c (kY i) ∗ zero (F := F) c (ySem i.val i.isLt)))
  have ho := bigSep_nat4 (fun i h => outHas c i h (resTile m c i h))
  exact h1.trans (BIClass.sep_mono ((Entails.of_eq ho).trans (out_join m c))
    (h2.trans (sep_mono_left (join cc0_scratch7 c kY kY_d kY_c (m ((c : Thread nD τ).loc cc0_scratch7))))))

/-- What a device ends with, put together again. -/
theorem room_exit (c : Dev nD) : roomOut m c
    ⊢ iprop(scratch (F := F) c ∗ localZeros (F := F) c ∗ farZeros (F := F) c ∗ outWhole m c ∗ semVal (barCell c) 0) := by
  unfold scratch localZeros farZeros roomOut
  iintro ⟨HX, HW, HD, HR, HA, HY, HB⟩
  ihave HX := (xOuts m c) $$ HX
  icases HX with ⟨S0, ZX⟩
  ihave HW := (wOuts m c) $$ HW
  icases HW with ⟨S5, ZW⟩
  ihave HD := (drainOuts m c) $$ HD
  icases HD with ⟨S1, S2, Z1, Z2⟩
  ihave HR := (recvOuts m c) $$ HR
  icases HR with ⟨S3, S4, Z3, Z4⟩
  ihave HY := (yOuts m c) $$ HY
  icases HY with ⟨HO, S7, ZY⟩
  isplitl [S0 S1 S2 S3 S4 S5 HA S7]
  · isplitl [S0]; · iexact S0
    isplitl [S1]; · iexact S1
    isplitl [S2]; · iexact S2
    isplitl [S3]; · iexact S3
    isplitl [S4]; · iexact S4
    isplitl [S5]; · iexact S5
    isplitl [HA]; · unfold accAny; iexact HA
    iexact S7
  isplitl [ZX ZW ZY]
  · isplitl [ZX]; · iexact ZX
    isplitl [ZW] <;> iassumption
  isplitl [Z1 Z2 Z3 Z4]
  · isplitl [Z1]; · iexact Z1
    isplitl [Z2]; · iexact Z2
    isplitl [Z3] <;> iassumption
  isplitl [HO] <;> iassumption

end Cert.KernelIdeal.Run
end
-- ==== Proof.Deal.lean ====
/-
# What the launch deals

The counters, tokens and credits of the launch, sorted by device and by kind.
-/
module

public import proofs.«01_k».proof.Proof.Room

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

/-! ## Families over the cells -/

theorem bigSep_cut (a b : ℕ) (Φ : Fin (a + b) → sProp 𝕄) : bigSep Finset.univ Φ
    = iprop((bigSep Finset.univ fun i : Fin a => Φ (Fin.castAdd b i)) ∗ bigSep Finset.univ fun i : Fin b => Φ (Fin.natAdd a i)) := by
  rw [bigSep_univ_equiv finSumFinEquiv, bigSep_univ_sum]; rfl

/-- The transfers' cells of a device: the four kinds, seven of each. -/
def four (Φ : DmaSem sig → sProp 𝕄) : sProp 𝕄 :=
  iprop((bigSep Finset.univ fun i : Fin 7 => Φ (qSendSem i.val i.isLt)) ∗ (bigSep Finset.univ fun i : Fin 7 => Φ (sSendSem i.val i.isLt))
    ∗ (bigSep Finset.univ fun i : Fin 7 => Φ (qRecvSem i.val i.isLt)) ∗ bigSep Finset.univ fun i : Fin 7 => Φ (sRecvSem i.val i.isLt))

theorem csem_succ (k : Fin 28) (q : DmaSem sig) (h : q.val = 11 + k.val) : csem k.succ = SemLoc.dma q := by
  unfold csem
  rw [dif_neg (by simp)]
  exact congrArg _ (Fin.ext (by rw [h]; show 10 + (k.val + 1) = 11 + k.val; omega))

theorem far_eq (Φ : SemLoc sig → sProp 𝕄) : (bigSep Finset.univ fun k : Fin 28 => Φ (csem k.succ)) = four (fun q => Φ (.dma q)) := by
  have e := (bigSep_cut 7 21 (fun k => Φ (csem k.succ))).trans (congrArg (fun z => iprop(_ ∗ z)) ((bigSep_cut 7 14 _).trans (congrArg (fun z => iprop(_ ∗ z)) (bigSep_cut 7 7 _))))
  refine e.trans ?_
  unfold four
  refine congrArg₂ (fun a b => iprop(a ∗ b)) ?_ ?_
  · exact bigSep_congr fun i _ => congrArg Φ (csem_succ _ _ (by rw [qSendSem_val]; rfl))
  refine congrArg₂ (fun a b => iprop(a ∗ b)) ?_ ?_
  · exact bigSep_congr fun i _ => congrArg Φ (csem_succ _ _ (by rw [sSendSem_val]; show 18 + i.val = 11 + (7 + i.val); omega))
  refine congrArg₂ (fun a b => iprop(a ∗ b)) ?_ ?_
  · exact bigSep_congr fun i _ => congrArg Φ (csem_succ _ _ (by rw [qRecvSem_val]; show 25 + i.val = 11 + (7 + (7 + i.val)); omega))
  · exact bigSep_congr fun i _ => congrArg Φ (csem_succ _ _ (by rw [sRecvSem_val]; show 32 + i.val = 11 + (7 + (7 + (7 + i.val))); omega))

theorem cells_eq (Φ : SemLoc sig → sProp 𝕄) : (bigSep Finset.univ fun k : Fin 29 => Φ (csem k)) = iprop(Φ (.reg barSem) ∗ four (fun q => Φ (.dma q))) := by
  rw [← far_eq]
  refine (bigSep_cut 1 28 (fun k => Φ (csem k))).trans ?_
  refine congrArg₂ (fun a b => iprop(a ∗ b)) ?_ ?_
  · exact bigSep_univ_of_subsingleton (0 : Fin 1)
  · exact bigSep_congr fun i _ => congrArg (fun k => Φ (csem k)) (Fin.ext (by show 1 + i.val = i.val + 1; omega))

theorem sems_eq (Φ : DmaSem sig → sProp 𝕄) : (bigSep Finset.univ fun k : Fin 43 => Φ k)
    = iprop((bigSep Finset.univ fun i : Fin 8 => Φ (xSem i.val i.isLt)) ∗ (bigSep Finset.univ fun i : Fin 3 => Φ (wSem i.val i.isLt))
        ∗ (bigSep Finset.univ fun i : Fin 28 => Φ (Fin.natAdd 11 (Fin.castAdd 4 i) : Fin 43)) ∗ bigSep Finset.univ fun i : Fin 4 => Φ (ySem i.val i.isLt)) := by
  have e := (bigSep_cut 8 35 (fun k : Fin 43 => Φ k)).trans (congrArg (fun z => iprop(_ ∗ z)) ((bigSep_cut 3 32 _).trans (congrArg (fun z => iprop(_ ∗ z)) (bigSep_cut 28 4 _))))
  refine e.trans ?_
  refine congrArg₂ (fun a b => iprop(a ∗ b)) ?_ ?_
  · exact bigSep_congr fun i _ => congrArg Φ ((by decide : ∀ i : Fin 8, (Fin.castAdd 35 i : Fin 43) = xSem i.val i.isLt) i)
  refine congrArg₂ (fun a b => iprop(a ∗ b)) ?_ ?_
  · exact bigSep_congr fun i _ => congrArg Φ ((by decide : ∀ i : Fin 3, (Fin.natAdd 8 (Fin.castAdd 32 i) : Fin 43) = wSem i.val i.isLt) i)
  refine congrArg₂ (fun a b => iprop(a ∗ b)) ?_ ?_
  · exact bigSep_congr fun i _ => congrArg Φ (Fin.ext (by show 8 + (3 + i.val) = 11 + i.val; omega))
  · exact bigSep_congr fun i _ => congrArg Φ ((by decide : ∀ i : Fin 4, (Fin.natAdd 8 (Fin.natAdd 3 (Fin.natAdd 28 i)) : Fin 43) = ySem i.val i.isLt) i)

/-- All of a device's transfer counters. -/
theorem zeros_eq (c : Dev nD) : (bigSep Finset.univ fun k : Fin 43 => (semVal (dCell c k) 0 : sProp 𝕄)) ⊢ iprop(localZeros (F := F) c ∗ farZeros (F := F) c) := by
  rw [sems_eq (fun q => semVal (dCell c q) 0)]
  have e : (bigSep Finset.univ fun i : Fin 28 => (semVal (dCell c (Fin.natAdd 11 (Fin.castAdd 4 i) : Fin 43)) 0 : sProp 𝕄)) = farZeros (F := F) c := by
    refine Eq.trans (bigSep_congr fun k _ => ?_) (far_eq (F := F) fun s => semVal ((c : Thread nD τ), s) 0)
    rw [csem_succ k (Fin.natAdd 11 (Fin.castAdd 4 k) : Fin 43) rfl]
  rw [e]
  unfold localZeros
  iintro ⟨H1, H2, H3, H4⟩
  isplitr [H3]
  · isplitl [H1]; · iexact H1
    isplitl [H2] <;> iassumption
  iexact H3
theorem zeros_eq' (c : Dev nD) : iprop(localZeros (F := F) c ∗ farZeros (F := F) c) ⊢ (bigSep Finset.univ fun k : Fin 43 => (semVal (dCell c k) 0 : sProp 𝕄)) := by
  rw [sems_eq (fun q => semVal (dCell c q) 0)]
  have e : (bigSep Finset.univ fun i : Fin 28 => (semVal (dCell c (Fin.natAdd 11 (Fin.castAdd 4 i) : Fin 43)) 0 : sProp 𝕄)) = farZeros (F := F) c := by
    refine Eq.trans (bigSep_congr fun k _ => ?_) (far_eq (F := F) fun s => semVal ((c : Thread nD τ), s) 0)
    rw [csem_succ k (Fin.natAdd 11 (Fin.castAdd 4 k) : Fin 43) rfl]
  rw [e]
  unfold localZeros
  iintro ⟨⟨H1, H2, H4⟩, H3⟩
  isplitl [H1]; · iexact H1
  isplitl [H2]; · iexact H2
  isplitl [H3] <;> iassumption

/-! ## Around the ring -/

/-- `i + 1` places on. -/
def fwEquiv (i : Fin 7) : Dev nD ≃ Dev nD := ⟨fw i.val, bk i.val, bk_fw i.isLt, fw_bk i.isLt⟩

theorem around (Φ : Dev nD → Fin 7 → sProp 𝕄) : (bigSep Finset.univ fun c : Dev nD => bigSep Finset.univ fun i : Fin 7 => Φ c i)
    = bigSep Finset.univ fun c : Dev nD => bigSep Finset.univ fun i : Fin 7 => Φ (fw i.val c) i := by
  rw [bigSep_univ_comm, bigSep_univ_comm (fun (c : Dev nD) (i : Fin 7) => Φ (fw i.val c) i)]
  exact bigSep_congr fun i _ => bigSep_univ_equiv (fwEquiv i) (fun c => Φ c i)

theorem around_sum (f : Dev nD → Fin 7 → ℕ) : (∑ c : Dev nD, ∑ i : Fin 7, f (fw i.val c) i) = ∑ c : Dev nD, ∑ i : Fin 7, f c i := by
  rw [Finset.sum_comm, Finset.sum_comm (f := f)]
  exact Finset.sum_congr rfl fun i _ => Equiv.sum_comp (fwEquiv i) (fun c => f c i)

/-! ## What a device owes -/

/-- What each device owes at the start: all its signals and landings. -/
def O₀ (c : Dev nD) : CellTallies nD τ sig Bool := owedBar c 7

theorem owed_eq (d : Dev nD) : O₀ d = ∑ i : Fin 7, (tallyAt (dCell (fw i.val d) (sRecvSem i.val i.isLt)) true NS
    + tallyAt (dCell (fw i.val d) (qRecvSem i.val i.isLt)) true NQ + tallyAt (barCell (fw i.val d)) true 1) := by
  rw [Fin.sum_univ_seven]
  unfold O₀
  simp only [owedBar, owedSends]
  simp only [dif_pos (show 0 < 7 by decide), dif_pos (show 1 < 7 by decide), dif_pos (show 2 < 7 by decide), dif_pos (show 3 < 7 by decide),
    dif_pos (show 4 < 7 by decide), dif_pos (show 5 < 7 by decide), dif_pos (show 6 < 7 by decide)]
  show _ = tallyAt (dCell (fw 0 d) (sRecvSem 0 (by decide))) true NS + tallyAt (dCell (fw 0 d) (qRecvSem 0 (by decide))) true NQ + tallyAt (barCell (fw 0 d)) true 1
    + (tallyAt (dCell (fw 1 d) (sRecvSem 1 (by decide))) true NS + tallyAt (dCell (fw 1 d) (qRecvSem 1 (by decide))) true NQ + tallyAt (barCell (fw 1 d)) true 1)
    + (tallyAt (dCell (fw 2 d) (sRecvSem 2 (by decide))) true NS + tallyAt (dCell (fw 2 d) (qRecvSem 2 (by decide))) true NQ + tallyAt (barCell (fw 2 d)) true 1)
    + (tallyAt (dCell (fw 3 d) (sRecvSem 3 (by decide))) true NS + tallyAt (dCell (fw 3 d) (qRecvSem 3 (by decide))) true NQ + tallyAt (barCell (fw 3 d)) true 1)
    + (tallyAt (dCell (fw 4 d) (sRecvSem 4 (by decide))) true NS + tallyAt (dCell (fw 4 d) (qRecvSem 4 (by decide))) true NQ + tallyAt (barCell (fw 4 d)) true 1)
    + (tallyAt (dCell (fw 5 d) (sRecvSem 5 (by decide))) true NS + tallyAt (dCell (fw 5 d) (qRecvSem 5 (by decide))) true NQ + tallyAt (barCell (fw 5 d)) true 1)
    + (tallyAt (dCell (fw 6 d) (sRecvSem 6 (by decide))) true NS + tallyAt (dCell (fw 6 d) (qRecvSem 6 (by decide))) true NQ + tallyAt (barCell (fw 6 d)) true 1)
  abel

/-- The units owed to a cell by all devices together. -/
theorem owed_sum (g : GSem nD τ sig) (b : Bool) : (∑ d : Dev nD, O₀ d g b)
    = ∑ d : Dev nD, ∑ i : Fin 7, ((if g = dCell d (sRecvSem i.val i.isLt) ∧ b = true then NS else 0)
        + (if g = dCell d (qRecvSem i.val i.isLt) ∧ b = true then NQ else 0) + (if g = barCell d ∧ b = true then 1 else 0)) := by
  rw [← around_sum]
  refine Finset.sum_congr rfl fun d _ => ?_
  rw [owed_eq, Finset.sum_apply, Finsupp.finset_sum_apply]
  refine Finset.sum_congr rfl fun i _ => ?_
  rw [Pi.add_apply, Finsupp.add_apply, Pi.add_apply, Finsupp.add_apply, tallyAt_apply, tallyAt_apply, tallyAt_apply]

theorem dCell_iff {c d : Dev nD} {p q : DmaSem sig} : Iff (dCell c p = dCell d q) (c = d ∧ p = q) :=
  ⟨fun h => ⟨Fin.ext (congrArg (fun g : GSem nD τ sig => g.1.1.val) h), by have := congrArg (fun g : GSem nD τ sig => g.2) h; exact SemLoc.dma.inj this⟩,
    fun ⟨h, h'⟩ => by rw [h, h']⟩
theorem barCell_iff {c d : Dev nD} : Iff (barCell c = barCell d) (c = d) :=
  ⟨fun h => Fin.ext (congrArg (fun g : GSem nD τ sig => g.1.1.val) h), fun h => by rw [h]⟩
theorem bar_ne_dma {c d : Dev nD} {q : DmaSem sig} : barCell c ≠ dCell d q := fun h => by
  have := congrArg (fun g : GSem nD τ sig => g.2) h; exact absurd this (by intro h'; cases h')
theorem dma_ne_bar {c d : Dev nD} {q : DmaSem sig} : dCell d q ≠ barCell c := fun h => bar_ne_dma h.symm
theorem sq_ne {i j : ℕ} {h : i < 7} {h' : j < 7} : sRecvSem i h ≠ qRecvSem j h' := fun e => by
  have := congrArg Fin.val e; rw [sRecvSem_val, qRecvSem_val] at this; omega
theorem s_iff {i j : ℕ} {h : i < 7} {h' : j < 7} : Iff (sRecvSem i h = sRecvSem j h') (i = j) :=
  ⟨fun e => by have := congrArg Fin.val e; rw [sRecvSem_val, sRecvSem_val] at this; omega, fun e => by subst e; rfl⟩
theorem q_iff {i j : ℕ} {h : i < 7} {h' : j < 7} : Iff (qRecvSem i h = qRecvSem j h') (i = j) :=
  ⟨fun e => by have := congrArg Fin.val e; rw [qRecvSem_val, qRecvSem_val] at this; omega, fun e => by subst e; rfl⟩

theorem owed_bar (c : Dev nD) (b : Bool) : (∑ d : Dev nD, O₀ d (barCell c) b) = if b = true then 7 else 0 := by
  rw [owed_sum]
  cases b
  · simp
  · simp only [bar_ne_dma, false_and, if_false, barCell_iff, and_true, if_true, zero_add]
    rw [Finset.sum_eq_single c (fun d _ h => by simp [Ne.symm h]) (fun h => absurd (Finset.mem_univ _) h)]
    simp
theorem owed_s (c : Dev nD) (j : Fin 7) (b : Bool) : (∑ d : Dev nD, O₀ d (dCell c (sRecvSem j.val j.isLt)) b) = if b = true then NS else 0 := by
  rw [owed_sum]
  cases b
  · simp
  · simp only [dma_ne_bar, false_and, if_false, dCell_iff, and_true, if_true, add_zero, sq_ne, and_false, s_iff]
    rw [Finset.sum_eq_single c (fun d _ h => by simp [Ne.symm h]) (fun h => absurd (Finset.mem_univ _) h),
      Finset.sum_eq_single j (fun i _ h => if_neg fun e => h (Fin.ext e.2.symm)) (fun h => absurd (Finset.mem_univ _) h), if_pos ⟨rfl, rfl⟩]
theorem owed_q (c : Dev nD) (j : Fin 7) (b : Bool) : (∑ d : Dev nD, O₀ d (dCell c (qRecvSem j.val j.isLt)) b) = if b = true then NQ else 0 := by
  rw [owed_sum]
  cases b
  · simp
  · simp only [dma_ne_bar, false_and, if_false, dCell_iff, and_true, if_true, add_zero, zero_add, Ne.symm sq_ne, and_false, q_iff]
    rw [Finset.sum_eq_single c (fun d _ h => by simp [Ne.symm h]) (fun h => absurd (Finset.mem_univ _) h),
      Finset.sum_eq_single j (fun i _ h => if_neg fun e => h (Fin.ext e.2.symm)) (fun h => absurd (Finset.mem_univ _) h), if_pos ⟨rfl, rfl⟩]

/-! ## The credit that the launch deals -/

theorem launch_at (g : GSem nD τ sig) (k : ℕ) (h : ∀ b, (∑ d : Dev nD, O₀ d g b) = if b = true then k else 0) :
    tallyOn g (launchCredit (Pipeline.owing O₀) 0 g) = (tallyAt g true k : CellTallies nD τ sig Bool) := by
  unfold tallyAt
  refine congrArg _ (Finsupp.ext fun u => ?_)
  rw [Pipeline.launchCredit_owing, h, Finsupp.single_apply]
  cases u <;> rfl

theorem csem_injective : Function.Injective csem := by
  intro k k' h
  unfold csem at h
  split at h <;> split at h
  · exact Fin.ext (by omega)
  · cases h
  · cases h
  · have := congrArg Fin.val (SemLoc.dma.inj h)
    exact Fin.ext (by change 10 + k.val = 10 + k'.val at this; omega)

theorem creds (c : Dev nD) : (Pipeline.launchCred O₀ c : sProp 𝕄)
    ⊢ iprop(cred (tallyAt (barCell c) true 7) ∗ (bigSep Finset.univ fun i : Fin 7 => cred (tallyAt (dCell c (qRecvSem i.val i.isLt)) true NQ))
        ∗ bigSep Finset.univ fun i : Fin 7 => cred (tallyAt (dCell c (sRecvSem i.val i.isLt)) true NS)) := by
  unfold Pipeline.launchCred
  refine (bigSep_subset (Finset.subset_univ (Finset.univ.map ⟨csem, csem_injective⟩))).trans ?_
  rw [bigSep_map]
  refine (Entails.of_eq (cells_eq (F := F) fun sm => cred (tallyOn ((c : Thread nD τ), sm) (launchCredit (Pipeline.owing O₀) 0 ((c : Thread nD τ), sm))))).trans ?_
  rw [launch_at (barCell c) 7 (owed_bar c)]
  unfold four
  rw [bigSep_congr (s := Finset.univ) fun (i : Fin 7) _ => congrArg (fun z => (cred z : sProp 𝕄)) (launch_at (dCell c (qRecvSem i.val i.isLt)) NQ (owed_q c i)),
    bigSep_congr (s := Finset.univ) fun (i : Fin 7) _ => congrArg (fun z => (cred z : sProp 𝕄)) (launch_at (dCell c (sRecvSem i.val i.isLt)) NS (owed_s c i))]
  iintro ⟨H, -, -, H1, H2⟩
  isplitl [H]; · iexact H
  isplitl [H1] <;> iassumption

end Cert.KernelIdeal.Run
end
-- ==== Proof.Launch.lean ====
/-
# The run

The launch on eight devices, and what every run of the program ends with.
-/
module

public import proofs.«01_k».proof.Proof.Deal
public import Idealize.ShloMosaic.Lib.Quiescent
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Bool (Elt F) ℕ UU ℕ

variable (m : (ℓ : Loc nD τ sig) → Buf (Elt F) ℓ) (ρ : Dev nD → PrngReg)

/-! ## The launch element -/

/-- The kernel's own semaphores. -/
abbrev osem : Fin 43 → SemLoc sig := fun k => .dma k
theorem ownSemFacts : Pipeline.OwnSemFacts cfg0.spec osem := by decide

theorem kcell_injective : Function.Injective kcell := by
  rintro ⟨c, k⟩ ⟨c', k'⟩ h
  have h1 : c = c' := Fin.ext (congrArg (fun g : GSem nD τ sig => g.1.1.val) h)
  have h2 : k = k' := csem_injective (congrArg (fun g : GSem nD τ sig => g.2) h)
  rw [h1, h2]
def ringCells : Finset (GSem nD τ sig) := Finset.univ.map ⟨kcell, kcell_injective⟩

/-- A device's own cells' duties: the seven of its barrier cell, and one of each transfer cell. -/
def tokOf (cj : Dev nD × (Fin 7 ⊕ Fin 28)) : GSem nD τ sig × ℕ × Fin 7 := match cj.2 with
  | .inl i => (kcell (cj.1, 0), 0, i)
  | .inr k => (kcell (cj.1, k.succ), 0, 0)
theorem tokOf_injective : Function.Injective tokOf := by
  rintro ⟨c, j⟩ ⟨c', j'⟩ h
  rcases j with i | k <;> rcases j' with i' | k'
  · have h1 := kcell_injective (congrArg Prod.fst h)
    have h2 : i = i' := congrArg (fun x : GSem nD τ sig × ℕ × Fin 7 => x.2.2) h
    have h3 : c = c' := (Prod.mk.inj h1).1
    rw [h3, h2]
  · exact absurd (Prod.mk.inj (kcell_injective (congrArg Prod.fst h))).2 (Fin.succ_ne_zero _).symm
  · exact absurd (Prod.mk.inj (kcell_injective (congrArg Prod.fst h))).2 (Fin.succ_ne_zero _)
  · have h1 := kcell_injective (congrArg Prod.fst h)
    have h3 : c = c' := (Prod.mk.inj h1).1
    have h4 : k = k' := Fin.succ_inj.mp (Prod.mk.inj h1).2
    rw [h3, h4]
def ringToks : Finset (GSem nD τ sig × ℕ × Fin 7) := Finset.univ.map ⟨tokOf, tokOf_injective⟩

def u₀ : UU := (initOf (Pipeline.cells cfgs cellOf_inj) (Pipeline.launchToks cfgs cellOf_inj), initOf ringCells ringToks, 1)

/-- The tokens of the duties of device `c`'s own cells. -/
def toks (c : Dev nD) : sProp 𝕄 :=
  iprop((bigSep Finset.univ fun i : Fin 7 => dutyTok ER (barCell c) 0 i) ∗ four (fun q => dutyTok ER (dCell c q) 0 (0 : Fin 7)))
/-- The tokens of the duties that device `c` pays. -/
def payToks (c : Dev nD) : sProp 𝕄 := iprop(bigSep Finset.univ (barTok (F := F) c) ∗ bigSep Finset.univ (sendToks (F := F) c))
/-- Its positions at its own cells. -/
def poss (c : Dev nD) : sProp 𝕄 := iprop(atPos ER (barCell c) 0 ∅ 0 ∗ four (fun q => atPos ER (dCell c q) 0 ∅ 0))

/-- What the launch element deals device `c`. -/
def G (c : Dev nD) : sProp 𝕄 :=
  iprop((bigSep Finset.univ fun k : Fin 29 => roundState ER (ringRd m) (kcell (c, k)) 0)
    ∗ (bigSep Finset.univ fun k : Fin 29 => reached ER (kcell (c, k)) 0) ∗ poss (F := F) c ∗ toks (F := F) c)
/-- What is known of all cells. -/
def links : sProp 𝕄 := bigSep Finset.univ fun ck : Dev nD × Fin 29 => known m (kcell ck)
instance links_persistent : BI.Persistent (links (F := F) m) := by unfold links; infer_instance
/-- What the global step makes of it. -/
def G' (c : Dev nD) : sProp 𝕄 := iprop(links m ∗ poss (F := F) c ∗ payToks (F := F) c ∗ localZeros (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hP : bigSep ringCells (fun g => (atPos ER g 0 ∅ 0 : sProp 𝕄)) = bigSep Finset.univ fun c : Dev nD => poss c := by
    rw [hX]
    exact bigSep_congr fun c _ => cells_eq (F := F) fun sm => atPos ER ((c : Thread nD τ), sm) 0 ∅ 0
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum]
    exact congrArg (fun z => iprop(_ ∗ z)) (far_eq (F := F) fun sm => dutyTok ER ((c : Thread nD τ), sm) 0 (0 : Fin 7))
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq hP) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

theorem unscopedSems0_eq (c : Dev nD) : (unscopedSems0 c : sProp 𝕄) = semVal (barCell c) 0 := by
  unfold unscopedSems0; rw [bigSep_eq_bigSepL_of_eq [SemLoc.reg barSem] (by decide) (by decide)]; rfl
theorem ownSems0_elim (c : Dev nD) : (Pipeline.ownSems0 (Ix := Bool) (Name := ℕ) (U := UU) (Lvl := ℕ) (Val := Elt F) (τ := τ) osem c : sProp 𝕄)
    ⊢ iprop(localZeros (F := F) c ∗ farZeros (F := F) c) := zeros_eq c
theorem ownSems0_intro (c : Dev nD) : iprop(localZeros (F := F) c ∗ farZeros (F := F) c)
    ⊢ (Pipeline.ownSems0 (Ix := Bool) (Name := ℕ) (U := UU) (Lvl := ℕ) (Val := Elt F) (τ := τ) osem c : sProp 𝕄) := zeros_eq' c

/-- A device's counters into the invariants of its cells. -/
theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k : Fin 29 => known m (kcell (c, k))) ∗ poss (F := F) c ∗ toks (F := F) c ∗ localZeros (F := F) c) := by
  have hz : iprop(semVal (barCell c) 0 ∗ farZeros (F := F) c) = bigSep Finset.univ fun k : Fin 29 => (semVal (kcell (c, k)) 0 : sProp 𝕄) :=
    (cells_eq (F := F) fun sm => semVal ((c : Thread nD τ), sm) 0).symm
  have hi : iprop((bigSep Finset.univ fun k : Fin 29 => semVal (kcell (c, k)) 0) ∗ bigSep Finset.univ fun k : Fin 29 => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  rw [unscopedSems0_eq]
  iintro ⟨Hos, Hus, Hst, Hr, Hat, Htok⟩
  ihave Hos := (ownSems0_elim (F := F) c) $$ Hos
  icases Hos with ⟨Hl, Hf⟩
  ihave Hv := (Entails.of_eq hz) $$ [Hus Hf]
  · isplitl [Hus] <;> iassumption
  imod hi $$ [Hv Hst] with Hinv
  · isplitl [Hv] <;> iassumption
  imodintro
  isplitl [Hinv Hr]
  · unfold known
    rw [bigSep_sep']
    isplitl [Hinv] <;> iassumption
  isplitl [Hat]; · iexact Hat
  isplitl [Htok] <;> iassumption

theorem toks_around : (bigSep Finset.univ fun c : Dev nD => (toks c : sProp 𝕄)) ⊢ bigSep Finset.univ fun c : Dev nD => payToks c := by
  unfold toks payToks four barTok sendToks
  simp only [bigSep_sep']
  rw [around (F := F) fun c i => dutyTok ER (barCell c) 0 i, around (F := F) fun c i => dutyTok ER (dCell c (qRecvSem i.val i.isLt)) 0 (0 : Fin 7),
    around (F := F) fun c i => dutyTok ER (dCell c (sRecvSem i.val i.isLt)) 0 (0 : Fin 7)]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 29 => known m (kcell (c, k))) ∗ poss (F := F) c ∗ toks (F := F) c ∗ localZeros (F := F) c) : sProp 𝕄)
      ⊢ bigSep Finset.univ (G' m) := by
  rw [bigSep_sep', bigSep_sep', bigSep_sep', ← bigSep_univ_prod (fun ck : Dev nD × Fin 29 => known m (kcell ck))]
  have h : ∀ c ∈ (Finset.univ : Finset (Dev nD)), iprop(links m ∗ poss (F := F) c ∗ payToks (F := F) c ∗ localZeros (F := F) c) ⊢ G' m c := fun c _ => by
    unfold G'; iintro H; iexact H
  have hw := bigSep_with_persistent h
  rw [bigSep_sep', bigSep_sep'] at hw
  iintro ⟨HI, HP, HT, HZ⟩
  ihave HT := (toks_around (F := F)) $$ HT
  iapply hw
  isplitl [HI]; · unfold links; iexact HI
  isplitl [HP]; · iexact HP
  isplitl [HT] <;> iassumption

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## One device's part -/

/-- What the kernel of device `c` starts from besides its scratch buffers. -/
def start (c : Dev nD) : sProp 𝕄 := iprop(ghost m c ∗ localZeros (F := F) c ∗ shares m c ∗ anyOf (F := F) main_v1 c)
/-- What stays behind of the arguments. -/
def kept (c : Dev nD) : sProp 𝕄 :=
  iprop((((c : Thread nD τ).loc main_arg0) ↦{Transfers.shareDrop fullShare 8} m ((c : Thread nD τ).loc main_arg0))
    ∗ ((c : Thread nD τ).loc main_arg1) ↦{Transfers.shareDrop fullShare 8} m ((c : Thread nD τ).loc main_arg1))

theorem ghost_intro (c : Dev nD) : iprop(levAts L lv ∗ Pipeline.launchCred O₀ c ∗ links m ∗ poss (F := F) c ∗ payToks (F := F) c) ⊢ ghost m c := by
  have h3 := pairUp (F := F) (fun i : Fin 7 => atPos ER (dCell c (qRecvSem i.val i.isLt)) 0 ∅ 0) (fun i : Fin 7 => atPos ER (dCell c (sRecvSem i.val i.isLt)) 0 ∅ 0)
  have hr := (sep_mono_right ((sep_mono_right h3).trans (pairUp (F := F) (fun i : Fin 7 => cred (tallyAt (dCell c (sRecvSem i.val i.isLt)) true NS)) _))).trans
    (pairUp (F := F) (fun i : Fin 7 => cred (tallyAt (dCell c (qRecvSem i.val i.isLt)) true NQ)) _)
  unfold ghost poss payToks facts links four sendPos
  rw [bigSep_sep']
  iintro ⟨HL, HC, HK, ⟨PB, P1, P2, P3, P4⟩, TB, TS⟩
  ihave HC := (creds (F := F) c) $$ HC
  icases HC with ⟨CB, CQ, CS⟩
  isplitl [HL HK]
  · isplitl [HK] <;> iassumption
  isplitl [TB]; · iexact TB
  isplitl [TS]; · iexact TS
  isplitl [CQ CS P3 P4]
  · unfold recvIn
    iapply hr
    isplitl [CQ]; · iexact CQ
    isplitl [CS]; · iexact CS
    isplitl [P3] <;> iassumption
  isplitl [P1 P2]
  · isplitl [P1] <;> iassumption
  isplitl [CB] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  have hx := Transfers.pointsTo_toks_split (Ix := Bool) (Val := Elt F) (Name := ℕ) (U := UU) (Lvl := ℕ) (ℓ := (c : Thread nD τ).loc main_arg0) (S := Finset.univ)
    (f := m ((c : Thread nD τ).loc main_arg0)) fullShare 8
  have hw := Transfers.pointsTo_toks_split (Ix := Bool) (Val := Elt F) (Name := ℕ) (U := UU) (Lvl := ℕ) (ℓ := (c : Thread nD τ).loc main_arg1) (S := Finset.univ)
    (f := m ((c : Thread nD τ).loc main_arg1)) fullShare 8
  rw [Pipeline.unscopedRestP_none, unscopedRest0_eq]
  unfold G'
  iintro ⟨⟨HX, HW, HO⟩, HL, HC, -, HK, HP, HT, HZ⟩
  ihave HX := hx $$ HX
  icases HX with ⟨X0, XT⟩
  ihave HW := hw $$ HW
  icases HW with ⟨W0, WT⟩
  imodintro
  unfold start kept shares
  isplitr [X0 W0]
  · isplitl [HL HC HK HP HT]
    · iapply (ghost_intro m c)
      isplitl [HL]; · iexact HL
      isplitl [HC]; · iexact HC
      isplitl [HK]; · iexact HK
      isplitl [HP] <;> iassumption
    isplitl [HZ]; · iexact HZ
    isplitl [XT WT]
    · unfold xTok wTok
      isplitl [XT]; · iexact XT
      iexact WT
    iexists (m ((c : Thread nD τ).loc main_v1))
    iexact HO
  isplitl [X0] <;> iassumption

/-- The proof data of the pipeline that has no window: before the kernel and after it. -/
def dats (_ : Fin 1) (c : Dev nD) : Pipeline.Dat τ (Elt F) Bool ℕ UU ℕ cfg0 c where
  A w := w.elim0
  after w _ := w.elim0
  Φ t := match t with
    | ⟨0, _⟩ => iprop(ghost m c ∗ room m c)
    | ⟨_ + 1, _⟩ => roomOut m c
  q _ := fullShare
  owed t := match t with
    | ⟨0, _⟩ => O₀ c
    | ⟨_ + 1, _⟩ => 0

theorem share_eq (c : Dev nD) (w : Fin cfg0.W) : (dats m 0 c).share w = fullShare := w.elim0

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(ghost m c ∗ room m c) from rfl, scopedRest0_eq]
  unfold start
  iintro ⟨⟨HG, HZ, HS, HO⟩, -, HR⟩
  isplitl [HG]; · iexact HG
  iapply (room_intro m c)
  isplitl [HR]; · unfold scratch; iexact HR
  isplitl [HZ]; · iexact HZ
  isplitl [HS] <;> iassumption

theorem phi1_exit (c : Dev nD) :
    (dats m 0 c).Φ (Fin.last cfg0.N) ⊢ iprop((outWhole m c ∗ unscopedSems0 c) ∗ Pipeline.ownSems0 osem c ∗ Pipeline.scopedRest cfg0.spec c) := by
  rw [show (dats m 0 c).Φ (Fin.last cfg0.N) = roomOut m c from rfl, scopedRest0_eq, unscopedSems0_eq]
  refine (room_exit m c).trans ?_
  iintro ⟨HS, HL, HF, HO, HB⟩
  isplitl [HO HB]
  · isplitl [HO] <;> iassumption
  isplitl [HL HF]
  · iapply (ownSems0_intro (F := F) c)
    isplitl [HL] <;> iassumption
  unfold scratch; iexact HS

set_option maxRecDepth 16000 in
theorem body_obligation (c : Dev nD) : Pipeline.BodyObligation (dats m 0 c) (defs₀ (F := F)) Variants.none false Set.univ := fun t => by
  rw [fin_N0 t]
  have hw : ∀ Φ : Fin cfg0.W → sProp 𝕄, bigSep Finset.univ Φ = (iprop(emp) : sProp 𝕄) := fun Φ => bigSep_empty
  rw [hw, hw]
  have h := kernel_does m c (fun _ => iprop(roomOut m c ∗ (dats m 0 c).owesAt false t0_0.succ ∗ emp))
  rw [← body_eq t0_0] at h
  show iprop((ghost m c ∗ room m c) ∗ (dats m 0 c).owesAt false t0_0.castSucc ∗ emp)
    ⊢ Does c (bodyAt0 (F := F) t0_0) (fun _ => iprop(roomOut m c ∗ (dats m 0 c).owesAt false t0_0.succ ∗ emp))
  refine BIBase.Entails.trans ?_ h
  unfold Pipeline.Dat.owesAt Pipeline.owesWithin owesE
  iintro ⟨⟨HG, HR⟩, ⟨%W, -, HO⟩, -⟩
  isplitl
  · isplitl [HG]; · iexact HG
    isplitl [HR]; · iexact HR
    iexists W
    iexact HO
  iintro ⟨HR, %W', HO⟩
  isplitl [HR]; · iexact HR
  isplitl [HO]
  · iexists W'
    isplitr; · ipureintro; exact fun _ _ => Or.inl trivial
    iexact HO
  iempintro

theorem waits (c : Dev nD) : (levAts L lv : sProp 𝕄) ⊢ Pipeline.cellsWaits cfgs (dats m) false 0 c :=
  Pipeline.cellsWaits_intro cfgs (dats m) false 0 c fun w s t => w.elim0

/-! ## The run -/

theorem read_one (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  have h := pointsTo_read_all (Ix := Bool) (Val := Elt F) (Name := ℕ) (U := UU) (Lvl := ℕ) ({()} : Finset Unit) (fun _ => ℓ) (fun _ => f) s' q
  rw [bigSep_singleton] at h
  iintro H
  ihave H := h $$ H
  icases H with ⟨%h, H⟩
  isplitr; · ipureintro; exact h () (Finset.mem_singleton_self _)
  iexact H

/-- A device's memory at the end: the result array's column blocks, the arguments as they were. -/
def Ends (c : Dev nD) (s : MemSt nD τ sig (Elt F)) : Prop :=
  (∀ (h : ℕ) (hh : h < 4), outM.view.readAt (Elt F) (outR h hh).toLoadRect (s.mem ((c : Thread nD τ).loc main_v1)) = resTile m c h hh)
    ∧ s.mem ((c : Thread nD τ).loc main_arg0) = m ((c : Thread nD τ).loc main_arg0)
    ∧ s.mem ((c : Thread nD τ).loc main_arg1) = m ((c : Thread nD τ).loc main_arg1)

theorem ends_read (c : Dev nD) (s' : Phys nD τ sig (Elt F)) :
    iprop((outWhole m c ∗ unscopedSems0 c) ∗ kept m c ∗ SI s')
      ⊢ (|={Set.univ}=> iprop(⌜Ends m c s'.mem ∧ ∀ sm : SemLoc sig, sm.isScoped .tc = false → s'.mem.sem ((c.tc : Thread nD τ), sm) = 0⌝ ∗ SI s') : sProp 𝕄) := by
  unfold outWhole kept
  iintro ⟨⟨⟨%g, %hg, HO⟩, HB⟩, ⟨HX, HW⟩, HSI⟩
  ihave H := (read_one _ _ _ s') $$ [HO HSI]
  · isplitl [HO] <;> iassumption
  icases H with ⟨%ho, HSI⟩
  ihave H := (read_one _ _ _ s') $$ [HX HSI]
  · isplitl [HX] <;> iassumption
  icases H with ⟨%hx, HSI⟩
  ihave H := (read_one _ _ _ s') $$ [HW HSI]
  · isplitl [HW] <;> iassumption
  icases H with ⟨%hw, HSI⟩
  imod (Pipeline.unscopedSems0_read (X := unscopedSems0 c) (c := c) fupd_intro s') $$ [HB HSI] with ⟨%hs, HSI⟩
  · isplitl [HB] <;> iassumption
  imodintro
  isplitr
  · ipureintro
    exact ⟨⟨by rw [ho]; exact hg, hx, hw⟩, hs⟩
  iexact HSI

set_option maxRecDepth 8000 in
/-- The run: at any float values, from any memory with zero counters, every weakly fair execution of `main` on eight
    devices ends, each device's result array at the computed tiles, its arguments unchanged, every counter at zero. -/
theorem run_main : θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ Variants.none m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ w => w.elim0) (hpf := fun _ k => k.elim0)
    (X := start m) (Y := fun c => iprop(outWhole m c ∗ unscopedSems0 c)) (Z := kept m)
    (hX := start_intro m ρ) (hin := phi0_intro m) (hout := phi1_exit m)
    (QY := fun c s => Ends m c s ∧ ∀ sm : SemLoc sig, sm.isScoped .tc = false → s.sem ((c.tc : Thread nD τ), sm) = 0)
    (hY := ends_read m)
    (hQ := fun _ h hs => ⟨fun c => (h c).2.2.1, sem_eq_zero hs fun c => (h c).2.2.2⟩)

end Cert.KernelIdeal.Run
end
-- ==== Proof.Frames.lean ====
/-
# The three frames, and the named constant

Each program runs to its end, leaves its arguments unchanged and every semaphore at zero; and the one constant the
idealization names is the real it was computed from.
-/
module

public import proofs.«01_k».proof.Defs
public import proofs.«01_k».proof.Proof.Launch
public import proofs.«01_k».proof.Proof.KernelRun.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel runs on eight devices, leaves its arguments unchanged and every semaphore at zero. -/
theorem frame_p : Cert.quiescent_Kernel := fun m ρ _ =>
  (θ_run Cert.Kernel.defs _ _).mono (fun _ h => ⟨fun c => (h.1 c).2, h.2⟩) (Cert.Kernel.Run.run_main (F := Bits) m ρ)

/-- So does its idealization. -/
theorem frame_pi : Cert.quiescent_KernelIdeal := fun m ρ _ =>
  (θ_run Cert.KernelIdeal.defs _ _).mono (fun _ h => ⟨fun c => (h.1 c).2, h.2⟩)
    (Cert.KernelIdeal.Run.run_main (F := Ideal) m ρ)

/-- So does the reference, which has no semaphores. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The constant the idealization names is the real `127⁻¹`. -/
theorem preserves : Cert.preserves_Kernel_KernelIdeal :=
  IdealRules.named_const.statement Cert.KernelIdeal.κ "inv_127" .f32 0x3C010204#32 ((127⁻¹ : ℝ) : EReal) rfl

end Cert.Proof

end
-- ==== Proof.Scalars.lean ====
/-
# The arithmetic of one element

Over the extended reals: a block's largest absolute value, one quantised element, the activation; that an integer
between -127 and 127 goes through an 8-bit word unchanged; and that the scale of a block comes out of a sum of products.
-/
module

public import Idealize.ShloMosaic.PureOps.Ideal
public import Idealize.ShloMosaic.PureOps.Ideal.Laws
public import Idealize.ShloMosaic.Lib.IdealHost

@[expose] public section

noncomputable section

namespace Cert.Scalars

open Idealize.ShloMosaic
open scoped BigOperators

/-- The word of `127.0` is the real 127. -/
theorem ofBits_127 : Ideal.ofBits .f32 0x42FE0000#32 = ((127 : ℝ) : EReal) := by
  simp [Ideal.ofBits, Ideal.ieee, -EReal.coe_mul]; norm_num

/-- The word of minus infinity is the bottom. -/
theorem ofBits_bot : Ideal.ofBits .f32 0xFF800000#32 = ⊥ := by
  simp [Ideal.ofBits, Ideal.ieee]

/-- The floor of the scales, `1e-20` as a word. -/
def tiny : EReal := Ideal.ofBits .f32 0x1E3CE508#32

/-- It is positive. -/
theorem tiny_pos : 0 < tiny := by
  have e : tiny = ((12379400 * 2 ^ (-90 : ℤ) : ℝ) : EReal) := by
    unfold tiny
    simp [Ideal.ofBits, Ideal.ieee, -EReal.coe_mul]
  rw [e, ← EReal.coe_zero, EReal.coe_lt_coe_iff]
  positivity

/-- The largest absolute value of a block. -/
def top {m n : ℕ} (A : Fin m → Fin n → EReal) : EReal :=
  Finset.univ.sup fun p : Fin m × Fin n => max (A p.1 p.2) (-(A p.1 p.2))

/-- The same, at least `1e-20`. -/
def amax {m n : ℕ} (A : Fin m → Fin n → EReal) : EReal := max (top A) tiny

theorem amax_pos {m n : ℕ} (A : Fin m → Fin n → EReal) : 0 < amax A := lt_of_lt_of_le tiny_pos (le_max_right _ _)

/-- One element quantised: scaled by `127 / a`, rounded half up, clipped to [-127, 127]. -/
def qz (a x : EReal) : EReal :=
  min ((127 : ℝ) : EReal) (max ((-127 : ℝ) : EReal)
    (Ideal.liftRound Int.floor (x * Ideal.div ((127 : ℝ) : EReal) a + Ideal.ofBits .f32 0x3F000000#32)))

/-- A clipped rounding is an integer between -127 and 127. -/
theorem clip_int (y : EReal) : ∃ n : ℤ, -127 ≤ n ∧ n ≤ 127
    ∧ min ((127 : ℝ) : EReal) (max ((-127 : ℝ) : EReal) (Ideal.liftRound Int.floor y)) = ((n : ℝ) : EReal) := by
  induction y using EReal.rec with
  | bot => exact ⟨-127, by norm_num, by norm_num, by
      rw [Ideal.liftRound_bot, max_eq_left bot_le, min_eq_right (by exact_mod_cast (by norm_num : (-127 : ℝ) ≤ 127))]; norm_num⟩
  | top => exact ⟨127, by norm_num, by norm_num, by
      rw [Ideal.liftRound_top, max_eq_right le_top, min_eq_left le_top]; norm_num⟩
  | coe r =>
    refine ⟨min 127 (max (-127) ⌊r⌋), by simp, by simp, ?_⟩
    rw [Ideal.liftRound_coe]
    have e1 : max ((-127 : ℝ) : EReal) ((⌊r⌋ : ℝ) : EReal) = ((max (-127 : ℝ) (⌊r⌋ : ℝ) : ℝ) : EReal) := by
      rw [EReal.coe_strictMono.monotone.map_max]
    have e2 : min ((127 : ℝ) : EReal) ((max (-127 : ℝ) (⌊r⌋ : ℝ) : ℝ) : EReal)
        = ((min (127 : ℝ) (max (-127 : ℝ) (⌊r⌋ : ℝ)) : ℝ) : EReal) := by
      rw [EReal.coe_strictMono.monotone.map_min]
    rw [e1, e2]
    push_cast
    rfl

/-- An integer between -127 and 127 goes through an 8-bit word unchanged. -/
theorem toInt_fptosi (n : ℤ) (h0 : -127 ≤ n) (h1 : n ≤ 127) : (Ideal.fptosi 8 ((n : ℝ) : EReal)).toInt = n := by
  have e : Ideal.toIntClamped (-(2 ^ (8 - 1) : ℕ)) ((2 ^ (8 - 1) : ℕ) - 1) ((n : ℝ) : EReal) = n := by
    rw [Ideal.toIntClamped_coe]
    simp only [Int.floor_intCast, Int.ceil_intCast, ite_self]
    norm_num
    omega
  unfold Ideal.fptosi
  rw [e, BitVec.toInt_ofInt]
  simp only [Int.bmod]
  norm_num
  omega

/-- A quantised element goes through an 8-bit word unchanged. -/
theorem qz_word (a x : EReal) : (((Ideal.fptosi 8 (qz a x)).toInt : ℝ) : EReal) = qz a x := by
  obtain ⟨n, h0, h1, e⟩ := clip_int (x * Ideal.div ((127 : ℝ) : EReal) a + Ideal.ofBits .f32 0x3F000000#32)
  unfold qz
  rw [e, toInt_fptosi n h0 h1]

/-- One half as a word. -/
theorem ofBits_half : Ideal.ofBits .f32 0x3F000000#32 = ((1 / 2 : ℝ) : EReal) := by
  simp [Ideal.ofBits, Ideal.ieee, -EReal.coe_mul]; norm_num

/-- Under an infinite scale every element is quantised to zero. -/
theorem qz_top (x : EReal) : qz ⊤ x = 0 := by
  unfold qz
  have e : Ideal.div ((127 : ℝ) : EReal) ⊤ = 0 := by
    unfold Ideal.div; rw [if_neg (by simp), EReal.inv_top, mul_zero]
  rw [e, mul_zero, zero_add, ofBits_half, Ideal.liftRound_coe]
  have : ⌊(1 / 2 : ℝ)⌋ = 0 := by norm_num
  rw [this, Int.cast_zero, EReal.coe_zero, max_eq_right, min_eq_right]
  · exact_mod_cast (by norm_num : (0 : ℝ) ≤ 127)
  · exact_mod_cast (by norm_num : (-127 : ℝ) ≤ 0)

/-- A scale that is neither negative nor infinite comes out of a sum of products. -/
theorem scale_out {ι : Type} (s : Finset ι) (q w : ι → EReal) (c : EReal) (hc : 0 ≤ c) (hc' : c ≠ ⊤) :
    ∑ k ∈ s, (q k * c) * w k = (∑ k ∈ s, q k * w k) * c := by
  classical
  induction s using Finset.induction_on with
  | empty => simp
  | insert a s ha ih =>
    rw [Finset.sum_insert ha, Finset.sum_insert ha, ih, EReal.right_distrib_of_nonneg_of_ne_top hc hc']
    congr 1
    rw [mul_assoc, mul_comm c, ← mul_assoc]

/-- A block's products with its elements dequantised one by one are the products of the quantised elements, scaled once. -/
theorem deq_sum {ι : Type} (s : Finset ι) (a : EReal) (ha : 0 < a) (x w : ι → EReal) :
    ∑ k ∈ s, (qz a (x k) * Ideal.div a ((127 : ℝ) : EReal)) * w k
      = (∑ k ∈ s, qz a (x k) * w k) * (a * ((127⁻¹ : ℝ) : EReal)) := by
  have e : Ideal.div a ((127 : ℝ) : EReal) = a * ((127⁻¹ : ℝ) : EReal) := by
    rw [Ideal.div_coe (by norm_num), one_div]
  rw [e]
  rcases eq_or_ne a ⊤ with rfl | h
  · simp [qz_top]
  · refine scale_out s _ w _ (mul_nonneg ha.le (by exact_mod_cast (by norm_num : (0 : ℝ) ≤ 127⁻¹))) ?_
    induction a using EReal.rec with
    | bot => simp at ha
    | top => exact absurd rfl h
    | coe r => rw [← EReal.coe_mul]; exact EReal.coe_ne_top _

/-- The activation of one element. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

/-- The activation with the cube taken first. -/
theorem gelu_cube (y : EReal) : gelu y = Ideal.ofBits .f32 0x3F000000#32 * y * (Ideal.ofBits .f32 0x3F800000#32
    + Ideal.tanh (Ideal.ofBits .f32 0x3F4C422A#32 * (y + Ideal.ofBits .f32 0x3D372713#32 * (y * y * y)))) := by
  unfold gelu; rw [mul_assoc (_ * y), mul_assoc _ y (y * y), mul_assoc y y y]

/-- A sum over 4096 columns is the sum over eight blocks of 512. -/
theorem sum_blocks (f : Fin 4096 → EReal) :
    ∑ k, f k = ∑ s : Fin 8, ∑ k : Fin 512, f ⟨512 * s.val + k.val, by have := s.isLt; have := k.isLt; omega⟩ := by
  rw [← Equiv.sum_comp (finProdFinEquiv (m := 8) (n := 512)) f, Fintype.sum_prod_type]
  refine Finset.sum_congr rfl fun s _ => Finset.sum_congr rfl fun k _ => congrArg f (Fin.ext ?_)
  show k.val + 512 * s.val = 512 * s.val + k.val
  omega

/-- A sum over eight devices, started at one of them and going backwards from it. -/
theorem sum_turn (c : Fin 8) (f : Fin 8 → EReal) :
    ∑ s, f s = f c + ∑ i : Fin 7, f ⟨(c.val + (7 - i.val)) % 8, Nat.mod_lt _ (by decide)⟩ := by
  rw [← Equiv.sum_comp (Equiv.subLeft c) f, Fin.sum_univ_succ]
  congr 1
  · simp
  · refine Finset.sum_congr rfl fun i _ => congrArg f (Fin.ext ?_)
    have := c.isLt; have := i.isLt
    show (c - i.succ).val = _
    rw [Fin.val_sub, Fin.val_succ]
    congr 1
    omega

end Cert.Scalars
end
-- ==== Proof.BlockValue.lean ====
/-
# What one block computes

The steps of the kernel read at an index, over the extended reals: a quantised element, the scale of a block, the
device's own product, the accumulator after a received block, an element of an output tile.
-/
module

public import proofs.«01_k».proof.Proof.Local
public import proofs.«01_k».proof.Proof.Scalars
public import Idealize.ShloMosaic.Lib.ValueIdx
public import Idealize.ShloMosaic.Lib.ValueLayout
public import Idealize.ShloMosaic.Lib.MatmulPlain

@[expose] public section

noncomputable section

namespace Cert.KernelIdeal.Run

open Cert.KernelIdeal Cert.KernelIdeal.Gen Cert.Scalars
open Idealize.ShloMosaic Idealize.ShloMosaic.ValueIdx
open scoped BigOperators

/-! ## Operations at an index -/

section Reads
variable {s : Shape} {φ : FTy} {α : Type}

theorem floor_at (a : FVec Ideal s φ) (i : s.Idx) : floor a i = Ideal.liftRound Int.floor (a i) := rfl
theorem tanh_at (a : FVec Ideal s φ) (i : s.Idx) : tanh a i = Ideal.tanh (a i) := rfl
theorem absf_at (a : FVec Ideal s φ) (i : s.Idx) : absf a i = max (a i) (-(a i)) := rfl
theorem fptosi_at (w : ℕ) (a : FVec Ideal s φ) (i : s.Idx) : fptosi w a i = Ideal.fptosi w (a i) := rfl
theorem sitofp_at (w : ℕ) (a : IVec s w) (i : s.Idx) : (sitofp φ a : FVec Ideal s φ) i = (((a i).toInt : ℝ) : EReal) := rfl
theorem splat_at (x : α) (i : s.Idx) : broadcast s x i = x := rfl
theorem word_at (b : BitVec φ.bits) : (Scalar.ofBits φ b : Ideal φ) = Ideal.ofBits φ b := rfl
theorem int_at {w : ℕ} (b : BitVec w) : (Scalar.sitofp φ b : Ideal φ) = ((b.toInt : ℝ) : EReal) := rfl
theorem extractAt_at (pos : Fin s.rank → ℕ) (x : s.Idx → α) (h : ∀ a, pos a < s.size a) :
    extractAt pos x h = x fun a => ⟨pos a, h a⟩ := rfl
/-- One number spread over a matrix. -/
theorem spread_at {m n : ℕ} (x : (⟨2, ![1, 1]⟩ : Shape).Idx → α) (h : (⟨2, ![1, 1]⟩ : Shape).Broadcasts ⟨2, ![m, n]⟩)
    (i : Fin m) (j : Fin n) : broadcastTo ⟨2, ![m, n]⟩ x h (ix2 i j) = x (ix2 0 0) :=
  broadcastTo_apply _ _ _ _ (by intro a; fin_cases a <;> rfl)
/-- The maximum over a set of indices. -/
theorem fold_max (t : Finset s.Idx) (b : Ideal φ) (hb : b = (⊥ : EReal)) (f : s.Idx → Ideal φ) :
    t.fold FloatOps.maximumf b f = t.sup (α := EReal) f := by subst hb; rfl
/-- The activation of a matrix. -/
theorem gelu_at (y : FVec Ideal s .f32) (i : s.Idx) :
    mulf (mulf (broadcast s (Scalar.ofBits .f32 0x3F000000#32)) y) (addf (broadcast s (Scalar.ofBits .f32 0x3F800000#32))
      (tanh (mulf (broadcast s (Scalar.ofBits .f32 0x3F4C422A#32)) (addf y
        (mulf (mulf (mulf (broadcast s (Scalar.ofBits .f32 0x3D372713#32)) y) y) y))))) i = gelu (y i) := by
  rw [mulf_apply, mulf_apply, splat_at, addf_apply, splat_at, tanh_at, mulf_apply, splat_at, addf_apply, mulf_apply,
    mulf_apply, mulf_apply, splat_at, word_at, word_at, word_at, word_at, gelu]

end Reads

/-- A product of a 512 by 512 with a 512 by 2048 matrix. -/
theorem dotW_at (x : FVec Ideal S512x512 .bf16) (w : FVec Ideal S512x2048 .bf16) (r : Fin 512) (n : Fin 2048) :
    matmul dot_S512x512_S512x2048_S512x2048_1_0_0_1_n_n none x w (constant S512x2048 .f32 0x00000000#32) (ix2 r n)
      = ∑ k : Fin 512, x (ix2 r k) * w (ix2 k n) := by
  refine (Ideal.matmul_plain_apply (M := 512) (K := 512) (N := 2048) none x w _ r n).trans ?_
  rw [constant_apply, Ideal.ofBits_zero_f32, zero_add]

/-- A product of two 512 by 512 matrices. -/
theorem dotC_at (x w : FVec Ideal S512x512 .bf16) (r n : Fin 512) :
    matmul dot_S512x512_S512x512_S512x512_1_0_0_1_n_n none x w (constant S512x512 .f32 0x00000000#32) (ix2 r n)
      = ∑ k : Fin 512, x (ix2 r k) * w (ix2 k n) := by
  refine (Ideal.matmul_plain_apply (M := 512) (K := 512) (N := 512) none x w _ r n).trans ?_
  rw [constant_apply, Ideal.ofBits_zero_f32, zero_add]

/-! ## The steps -/

/-- A block as a matrix. -/
def mat (v : Vec Ideal S1x512x512 .f32) : Fin 512 → Fin 512 → EReal := fun r k => v (ix3 0 r k)

/-- The block without its leading axis. -/
theorem pay1_apply (v : Vec Ideal S1x512x512 .f32) (r k : Fin 512) : k0_pay1 (F := Ideal) v (ix2 r k) = mat v r k :=
  shapeCast_1ab_ab_apply v _ r k

/-- The absolute values of a block. -/
theorem abs_apply (v : Vec Ideal S1x512x512 .f32) (u : Fin 1) (r k : Fin 512) :
    shapeCast S1x512x512 (absf (F := Ideal) (k0_pay1 v)) shapeCasts_S512x512_S1x512x512 (ix3 u r k)
      = max (mat v r k) (-(mat v r k)) := by
  rw [shapeCast_ab_1ab_apply, absf_at, pay1_apply]

/-- The largest element of a block, as the kernel's reduction takes it. -/
theorem maxAll_at {m n : ℕ} (A : Fin m → Fin n → EReal) (x : FVec Ideal ⟨3, ![1, m, n]⟩ .f32) (h : (⟨3, ![1, m, n]⟩ : Shape).Reduces [1, 2] ⟨1, ![1]⟩)
    (hφ : FKind.Formats .f32) (hacc : 0xFF800000#32 = FKind.maximumf.neutral .f32 hφ) (j : (⟨1, ![1]⟩ : Shape).Idx)
    (hx : ∀ r k, x (ix3 0 r k) = max (A r k) (-(A r k))) :
    multiReduction .maximumf [1, 2] ⟨1, ![1]⟩ x 0xFF800000#32 h hφ hacc j = top A := by
  rw [multiReduction_maximumf_eq_fold, fold_max _ _ (show FloatOps.ofBits (F := Ideal) .f32 0xFF800000#32 = (⊥ : EReal) from ofBits_bot)]
  refine le_antisymm (Finset.sup_le fun i _ => ?_) (Finset.sup_le fun p _ => ?_)
  · obtain ⟨u, r, k, rfl⟩ : ∃ (u : Fin 1) (r : Fin m) (k : Fin n), i = ix3 u r k := ⟨i 0, i 1, i 2, eq_ix3 i⟩
    obtain rfl : u = 0 := Subsingleton.elim _ _
    rw [hx]
    exact Finset.le_sup (f := fun p : Fin m × Fin n => max (A p.1 p.2) (-(A p.1 p.2))) (Finset.mem_univ (r, k))
  · rw [← hx]
    refine Finset.le_sup (α := EReal) (f := x) (Finset.mem_filter.2 ⟨Finset.mem_univ _, ?_⟩)
    rw [eq_ix1 j, eq_ix1 (h.drop _)]
    exact congrArg ix1 (Subsingleton.elim (α := Fin 1) _ _)

/-- One number as a cube of one element. -/
theorem cube_at {α : Type} (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 0) :=
  shapeCast_apply _ _ _ _ (by
    have h0 : (j 0).val < 1 := (j 0).isLt
    have h1 : (j 1).val < 1 := (j 1).isLt
    have h2 : (j 2).val < 1 := (j 2).isLt
    rw [Shape.rowMajor_val_three, Shape.rowMajor_val_one]
    show 0 = ((j 0).val * 1 + (j 1).val) * 1 + (j 2).val
    omega)

/-- The largest absolute value of a block. -/
theorem pay2_apply (v : Vec Ideal S1x512x512 .f32) (j : S1x1.Idx) : k0_pay2 (F := Ideal) v j = top (mat v) := by
  unfold k0_pay2
  rw [splat_at, extractAt_at, cube_at]
  exact maxAll_at (mat v) _ _ _ _ _ (abs_apply v 0)

/-- The same, at least `1e-20`. -/
theorem pay3_apply (v : Vec Ideal S1x512x512 .f32) (j : S1x1.Idx) : k0_pay3 (F := Ideal) (k0_pay2 v) j = amax (mat v) := by
  simp only [k0_pay3]
  rw [maximumf_apply, splat_at, word_at, pay2_apply, amax, tiny]

/-- The integer -127 as a number. -/
theorem lo_at : (Scalar.sitofp .f32 4294967169#32 : Ideal .f32) = ((-127 : ℝ) : EReal) := by
  rw [int_at, show (4294967169#32 : BitVec 32).toInt = -127 by decide, Int.cast_neg, Int.cast_ofNat]
/-- The integer 127 as a number. -/
theorem hi_at : (Scalar.sitofp .f32 127#32 : Ideal .f32) = ((127 : ℝ) : EReal) := by
  rw [int_at, show (127#32 : BitVec 32).toInt = 127 by decide, Int.cast_ofNat]

/-- A quantised element, as a word. -/
theorem quant_apply (v : Vec Ideal S1x512x512 .f32) (u : Fin 1) (r k : Fin 512) :
    quant (F := Ideal) v (ix3 u r k) = Ideal.fptosi 8 (qz (amax (mat v)) (mat v r k)) := by
  simp only [quant, k0_pay4]
  rw [shapeCast_ab_1ab_apply]
  rw [fptosi_at, minimumf_apply, maximumf_apply, splat_at, splat_at, hi_at, lo_at, floor_at, addf_apply, splat_at, mulf_apply,
    pay1_apply, spread_at, divf_apply, splat_at, pay3_apply, word_at, word_at, ofBits_127, qz]

/-- The scale of a block, at every element of its tile. -/
theorem scale_apply (v : Vec Ideal S1x512x512 .f32) (u : Fin 1) (r : Fin 8) (k : Fin 128) :
    scale (F := Ideal) v (ix3 u r k) = amax (mat v) * ((127⁻¹ : ℝ) : EReal) := by
  simp only [scale, k0_pay5]
  rw [shapeCast_ab_1ab_apply, spread_at, shapeCast_self, mulf_apply, splat_at, pay3_apply,
    IdealRules.named_const.ideal_named_scalar _ _ _ _ rfl]

/-- The first element of a scale tile. -/
theorem head_apply (s : FVec Ideal S1x8x128 .f32) : head (F := Ideal) s (ix3 0 0 0) = s (ix3 0 0 0) :=
  extractStridedSlice_apply _ _ _ _ _ (by intro a; fin_cases a <;> rfl)

/-- An element of the device's own product. -/
theorem ownDot_apply (x : Vec Ideal S1x512x512 .f32) (w : Vec Ideal S1x512x2048 .f32) (r : Fin 512) (n : Fin 2048) :
    ownDot (F := Ideal) x w (ix2 r n) = ∑ k : Fin 512, mat x r k * w (ix3 0 k n) := by
  simp only [ownDot, k0_pay35]
  rw [shapeCast_self, dotW_at]
  refine Finset.sum_congr rfl fun k _ => ?_
  rw [truncf_apply, truncf_apply, shapeCast_1ab_ab_apply, shapeCast_1ab_ab_apply, mat]

/-- The products of a received block with a row block of the second argument, at one element. -/
def blockDot (q : Vec Ideal S1x512x512 .i8) (w : Vec Ideal S1x512x2048 .f32) (r : Fin 512) (n : Fin 2048) : EReal :=
  ∑ k : Fin 512, (((show BitVec 8 from q (ix3 0 r k)).toInt : ℝ) : EReal) * w (ix3 0 k n)

/-- An element of the accumulator after a received block. -/
theorem accAdd_apply (q : Vec Ideal S1x512x512 .i8) (w : Vec Ideal S1x512x2048 .f32) (a : Vec Ideal S512x2048 .f32)
    (s : Vec Ideal S1x1x1 .f32) (r : Fin 512) (n : Fin 2048) :
    accAdd (F := Ideal) q w a s (ix2 r n) = a (ix2 r n) + blockDot q w r n * s (ix3 0 0 0) := by
  simp only [accAdd, k0_pay36]
  rw [shapeCast_self, addf_apply, mulf_apply, dotW_at, spread_at, shapeCast_1ab_ab_apply s, blockDot]
  refine congrArg (fun y : EReal => a (ix2 r n) + y * s (ix3 0 0 0)) (Finset.sum_congr rfl fun k _ => ?_)
  rw [sitofp_at, truncf_apply, shapeCast_1ab_ab_apply, shapeCast_1ab_ab_apply]

/-- Column `512 h + n` of the output. -/
def colOf (h : ℕ) (hh : h < 4) (n : Fin 512) : Fin 2048 := ⟨512 * h + n.val, by have := n.isLt; omega⟩

/-- The columns `512 h …` of a matrix. -/
theorem slice_at (h : ℕ) (hh : h < 4) {α : Type} (f : S512x2048.Idx → α) (i n : Fin 512) :
    extractStridedSlice S512x512 ![0, 512 * h] f (slicesOut hh) (ix2 i n) = f (ix2 i (colOf h hh n)) :=
  extractStridedSlice_apply _ _ _ _ _ (by
    intro a; fin_cases a
    · exact (Nat.zero_add _).symm
    · rfl)

/-- An element of an output tile. -/
theorem outTile_apply (h : ℕ) (hh : h < 4) (q : Vec Ideal S1x512x512 .i8) (s : Vec Ideal S1x8x128 .f32)
    (w : Vec Ideal S1x512x2048 .f32) (a : FVec Ideal S512x2048 .f32) (r n : Fin 512) :
    outTile (F := Ideal) h hh q s w a (ix2 r n)
      = gelu (a (ix2 r (colOf h hh n)) + blockDot q w r (colOf h hh n) * s (ix3 0 0 0)) := by
  have e : addf (F := Ideal) (cols h hh a) (mulf (matmul dot_S512x512_S512x512_S512x512_1_0_0_1_n_n none (k0_pay44 q)
      (truncf .bf16 (extractStridedSlice S512x512 ![0, 512 * h] (shapeCast S512x2048 w shapeCasts_S1x512x2048_S512x2048)
        (slicesOut hh)) bitsLt_bf16_f32) (constant S512x512 .f32 0x00000000#32))
      (broadcastTo S512x512 (k0_pay45 (head s)) broadcasts_S1x1_S512x512)) (ix2 r n)
      = a (ix2 r (colOf h hh n)) + blockDot q w r (colOf h hh n) * s (ix3 0 0 0) := by
    simp only [k0_pay44, k0_pay45, cols]
    rw [addf_apply, slice_at, mulf_apply, dotC_at, spread_at, shapeCast_1ab_ab_apply (head (F := Ideal) s), head_apply, blockDot]
    refine congrArg (fun y : EReal => a (ix2 r (colOf h hh n)) + y * s (ix3 0 0 0)) (Finset.sum_congr rfl fun k _ => ?_)
    rw [sitofp_at, truncf_apply, slice_at, shapeCast_1ab_ab_apply, shapeCast_1ab_ab_apply]
  simp only [outTile, yTile]
  rw [shapeCast_1ab_ab_apply, shapeCast_ab_1ab_apply]
  rw [truncf_apply, gelu_at, e]

end Cert.KernelIdeal.Run
end
-- ==== Proof.Answer.lean ====
/-
# The answer

What both programs compute, element by element: a row of the first matrix, its blocks off the diagonal quantised and
dequantised, times a column of the second, activated.
-/
module

public import proofs.«01_k».proof.Proof.Scalars

@[expose] public section

noncomputable section

namespace Cert.Scalars

open Idealize.ShloMosaic
open scoped BigOperators

/-- Row or column `k` of block `s`. -/
def at8 (s : Fin 8) (k : Fin 512) : Fin 4096 := ⟨512 * s.val + k.val, by have := s.isLt; have := k.isLt; omega⟩

/-- Block `(c, s)` of a matrix. -/
def blk (X : Fin 4096 → Fin 4096 → EReal) (c s : Fin 8) : Fin 512 → Fin 512 → EReal := fun r k => X (at8 c r) (at8 s k)

/-- An element of block `(c, s)` as it enters the product: as it is on the diagonal, quantised and dequantised off it. -/
def elem (X : Fin 4096 → Fin 4096 → EReal) (c s : Fin 8) (r k : Fin 512) : EReal :=
  if c = s then blk X c s r k
  else qz (amax (blk X c s)) (blk X c s r k) * Ideal.div (amax (blk X c s)) ((127 : ℝ) : EReal)

/-- The share of block `(c, s)` in an element of the product. -/
def share (X : Fin 4096 → Fin 4096 → EReal) (W : Fin 4096 → Fin 2048 → EReal) (c s : Fin 8) (r : Fin 512) (n : Fin 2048) : EReal :=
  ∑ k : Fin 512, elem X c s r k * W (at8 s k) n

/-- Element `n` of row `r` of row block `c` of the result. -/
def answer (X : Fin 4096 → Fin 4096 → EReal) (W : Fin 4096 → Fin 2048 → EReal) (c : Fin 8) (r : Fin 512) (n : Fin 2048) : EReal :=
  gelu (∑ s : Fin 8, share X W c s r n)

/-- On the diagonal the share is the plain product. -/
theorem share_own (X : Fin 4096 → Fin 4096 → EReal) (W : Fin 4096 → Fin 2048 → EReal) (c : Fin 8) (r : Fin 512) (n : Fin 2048) :
    share X W c c r n = ∑ k : Fin 512, blk X c c r k * W (at8 c k) n :=
  Finset.sum_congr rfl fun k _ => by rw [elem, if_pos rfl]

/-- Off the diagonal it is the product of the quantised elements, scaled once. -/
theorem share_other (X : Fin 4096 → Fin 4096 → EReal) (W : Fin 4096 → Fin 2048 → EReal) (c s : Fin 8) (h : c ≠ s)
    (r : Fin 512) (n : Fin 2048) : share X W c s r n
      = (∑ k : Fin 512, qz (amax (blk X c s)) (blk X c s r k) * W (at8 s k) n) * (amax (blk X c s) * ((127⁻¹ : ℝ) : EReal)) :=
  (Finset.sum_congr rfl fun k _ => by rw [elem, if_neg h]).trans
    (deq_sum Finset.univ (amax (blk X c s)) (amax_pos _) (fun k => blk X c s r k) (fun k => W (at8 s k) n))

end Cert.Scalars
end
-- ==== Proof.KernelValue.lean ====
/-
# What the kernel computes

Each output tile of a device, element by element, is the answer at the device's row block.
-/
module

public import proofs.«01_k».proof.Proof.Finish
public import proofs.«01_k».proof.Proof.BlockValue
public import proofs.«01_k».proof.Proof.Answer
public import Idealize.ShloMosaic.Lib.Layout

@[expose] public section

noncomputable section

namespace Cert.KernelIdeal.Run

open Cert.KernelIdeal Cert.KernelIdeal.Gen Cert.Scalars
open Idealize.ShloMosaic Idealize.ShloMosaic.TcCoe Idealize.ShloMosaic.ValueIdx Idealize.SL.Sem
open scoped BigOperators

variable (m : (ℓ : Loc nD τ sig) → Buf (Elt Ideal) ℓ)

/-- A row block of the first argument, as read at step `i`. -/
theorem mat_xBlk (c : Dev nD) (i : ℕ) (h : i < 8) (d : Fin 8) (hd : (c.val + i) % 8 = d.val) (r k : Fin 512) :
    mat (xBlk m c i h) r k = (m ((c : Thread nD τ).loc main_arg0) : S4096x512.Idx → EReal) (ix2 (at8 d r) k) := by
  unfold mat xBlk
  rw [shapeCast_ab_1ab_apply]
  refine congrArg (m ((c : Thread nD τ).loc main_arg0) : S4096x512.Idx → EReal) (funext fun a => Fin.ext ?_)
  have e := k0_off1_eq c ⟨i, h⟩
  fin_cases a
  · show k0_off1 c (BitVec.ofNat 32 i) 0 + 1 * r.val = 512 * d.val + r.val
    rw [show k0_off1 c (BitVec.ofNat 32 i) 0 = 512 * ((c.val + i) % 8) from congrFun e 0, hd, one_mul]
  · show k0_off1 c (BitVec.ofNat 32 i) 1 + 1 * k.val = k.val
    rw [show k0_off1 c (BitVec.ofNat 32 i) 1 = 0 from congrFun e 1, one_mul, zero_add]

/-- A row block of the second argument, as read at step `i`. -/
theorem wBlk_apply (c : Dev nD) (i : ℕ) (h : i < 8) (d : Fin 8) (hd : (c.val + 8 - i) % 8 = d.val) (k : Fin 512) (n : Fin 2048) :
    wBlk m c i h (ix3 0 k n) = (m ((c : Thread nD τ).loc main_arg1) : S4096x2048.Idx → EReal) (ix2 (at8 d k) n) := by
  unfold wBlk
  rw [shapeCast_ab_1ab_apply]
  refine congrArg (m ((c : Thread nD τ).loc main_arg1) : S4096x2048.Idx → EReal) (funext fun a => Fin.ext ?_)
  have e := k0_off2_eq c ⟨i, h⟩
  fin_cases a
  · show k0_off2 c (BitVec.ofNat 32 i) 0 + 1 * k.val = 512 * d.val + k.val
    rw [show k0_off2 c (BitVec.ofNat 32 i) 0 = 512 * ((c.val + 8 - i) % 8) from congrFun e 0, hd, one_mul]
  · show k0_off2 c (BitVec.ofNat 32 i) 1 + 1 * n.val = n.val
    rw [show k0_off2 c (BitVec.ofNat 32 i) 1 = 0 from congrFun e 1, one_mul, zero_add]

/-- What received block `i` adds to an element of the accumulator. -/
def gain (c : Dev nD) (r : Fin 512) (n : Fin 2048) (i : ℕ) : EReal :=
  if h : i < 7 then blockDot (gotQ m c i h) (wBlk m c (i + 1) (Nat.succ_lt_succ h)) r n * gotS m c i h (ix3 0 0 0) else 0

/-- The accumulator is the device's own product and what the received blocks added. -/
theorem accAt_apply (c : Dev nD) (r : Fin 512) (n : Fin 2048) (j : ℕ) (hj : j ≤ 7) :
    accAt m c j (ix2 r n) = ownDot (F := Ideal) (xBlk m c 0 (by decide)) (wBlk m c 0 (by decide)) (ix2 r n)
      + ∑ i ∈ Finset.range j, gain m c r n i := by
  induction j with
  | zero => rw [Finset.sum_range_zero, add_zero, accAt]
  | succ j ih =>
    rw [accAt, dif_pos (show j < 7 by omega), accAdd_apply, ih (by omega), head_apply, Finset.sum_range_succ, ← add_assoc]
    congr 1
    rw [gain, dif_pos (show j < 7 by omega)]

/-- An element of an output tile: the activation of the device's own product and what the received blocks add. -/
theorem resTile_apply (c : Dev nD) (h : ℕ) (hh : h < 4) (r n : Fin 512) :
    resTile m c h hh (ix2 r n) = gelu (ownDot (F := Ideal) (xBlk m c 0 (by decide)) (wBlk m c 0 (by decide)) (ix2 r (colOf h hh n))
      + ∑ i ∈ Finset.range 7, gain m c r (colOf h hh n) i) := by
  have e : gain m c r (colOf h hh n) 6 = blockDot (gotQ m c 6 (by decide)) (wBlk m c 7 (by decide)) r (colOf h hh n)
      * gotS m c 6 (by decide) (ix3 0 0 0) := dif_pos (by decide)
  unfold resTile
  rw [outTile_apply, accAt_apply m c r _ 6 (by decide), Finset.sum_range_succ _ 6, e, ← add_assoc]

variable (X : (⟨2, ![4096, 4096]⟩ : Shape).Idx → EReal) (W : (⟨2, ![4096, 2048]⟩ : Shape).Idx → EReal)

/-- An array of two axes as a matrix. -/
abbrev mtx {p q : ℕ} (X : (⟨2, ![p, q]⟩ : Shape).Idx → EReal) : Fin p → Fin q → EReal := fun i j => X (ix2 i j)

/-- Each device holds its columns of the first matrix, and the whole second one. -/
def Holds : Prop := ∀ c : Dev nD,
  m ((c : Thread nD τ).loc main_arg0) = Layout.block ⟨2, ![4096, 512]⟩ ⟨2, ![4096, 4096]⟩ 1 8 c X
    ∧ m ((c : Thread nD τ).loc main_arg1) = W

variable {m X W}

/-- The block that device `s` reads at step `i` is a block of the whole matrix. -/
theorem mat_eq (H : Holds m X W) (s : Dev nD) (i : ℕ) (h : i < 8) (d : Fin 8) (hd : (s.val + i) % 8 = d.val) :
    mat (xBlk m s i h) = blk (mtx X) d s := by
  funext r k
  rw [mat_xBlk m s i h d hd, (H s).1, Layout.block_apply]
  refine congrArg X (funext fun a => Fin.ext ?_)
  fin_cases a
  · exact (Layout.idx_cols_val _ _ _).1
  · exact (Layout.idx_cols_val _ _ _).2.trans (by show s.val * 512 + k.val = 512 * s.val + k.val; omega)

theorem wBlk_eq (H : Holds m X W) (c : Dev nD) (i : ℕ) (h : i < 8) (d : Fin 8) (hd : (c.val + 8 - i) % 8 = d.val)
    (k : Fin 512) (n : Fin 2048) : wBlk m c i h (ix3 0 k n) = mtx W (at8 d k) n := by
  rw [wBlk_apply m c i h d hd, (H c).2]

/-- What received block `i` adds is the share of the block it came from. -/
theorem gain_eq (H : Holds m X W) (c : Dev nD) (r : Fin 512) (n : Fin 2048) (i : ℕ) (hi : i < 7) :
    gain m c r n i = share (mtx X) (mtx W) c (bk i c) r n := by
  have hc : c.val < 8 := c.isLt
  have hs : (bk i c).val = (c.val + (7 - i)) % 8 := rfl
  have ne : c ≠ bk i c := fun e => by
    have := congrArg Fin.val e
    rw [hs] at this; omega
  have hm := mat_eq H (bk i c) (i + 1) (Nat.succ_lt_succ hi) c (by rw [hs]; omega)
  rw [share_other _ _ _ _ ne, gain, dif_pos hi, gotS, scale_apply, hm, blockDot]
  congr 1
  refine Finset.sum_congr rfl fun k _ => ?_
  rw [wBlk_eq H c (i + 1) (Nat.succ_lt_succ hi) (bk i c) (by rw [hs]; omega), gotQ]
  congr 1
  rw [quant_apply, hm, qz_word]

/-- An element of an output tile is the answer at the device's row block. -/
theorem resTile_answer (H : Holds m X W) (c : Dev nD) (h : ℕ) (hh : h < 4) (r n : Fin 512) :
    resTile m c h hh (ix2 r n) = answer (mtx X) (mtx W) c r (colOf h hh n) := by
  have hc : c.val < 8 := c.isLt
  rw [resTile_apply, answer, sum_turn c, Finset.sum_range]
  refine congrArg gelu (congrArg₂ (· + ·) ?_ ?_)
  · rw [ownDot_apply, share_own, mat_eq H c 0 (by decide) c (by omega)]
    refine Finset.sum_congr rfl fun k _ => ?_
    rw [wBlk_eq H c 0 (by decide) c (by omega)]
  · exact Finset.sum_congr rfl fun i _ => gain_eq H c r _ i.val i.isLt

end Cert.KernelIdeal.Run
end
-- ==== Proof.ReferenceValue.lean ====
/-
# What the reference computes

The reference's result read at an index, over the extended reals: the blocks, the largest absolute value of each, the
quantised and dequantised elements, the product, the activation.
-/
module

public import proofs.«01_k».proof.Proof.Gen.ReferenceIdeal.Run
public import proofs.«01_k».proof.Proof.BlockValue
public import proofs.«01_k».proof.Proof.Answer
public import Idealize.ShloMosaic.Lib.IdealHost
public import Idealize.ShloMosaic.Lib.StackMember

@[expose] public section

noncomputable section

namespace Cert.ReferenceIdeal.Value

open Cert.ReferenceIdeal Cert.ReferenceIdeal.Gen Cert.Scalars
open Idealize.ShloMosaic Idealize.ShloMosaic.TcCoe Idealize.ShloMosaic.ValueIdx Idealize.SL.Sem
open Cert.KernelIdeal.Run (fold_max)
open scoped BigOperators

/-! ## Operations at an index -/

section Reads
variable {s : Shape} {φ : FTy}

theorem hostFloor_at (a : FVec Ideal s φ) (i : s.Idx) : Host.floor a i = Ideal.liftRound Int.floor (a i) := rfl
theorem hostTanh_at (a : FVec Ideal s φ) (i : s.Idx) : Host.tanh a i = Ideal.tanh (a i) := rfl
theorem hostAbs_at (a : FVec Ideal s φ) (i : s.Idx) : Host.absf a i = max (a i) (-(a i)) := rfl
/-- A constant spread over a shape. -/
theorem flat_at (h : S_.BroadcastsInDim s ![]) (b : BitVec φ.bits) (i : s.Idx) :
    broadcastInDim s ![] h (constant (F := Ideal) S_ φ b) i = Ideal.ofBits φ b := by
  rw [broadcastInDim_scalar_apply, constant_apply]
/-- An integer constant spread over a shape. -/
theorem flatInt_at (h : S_.BroadcastsInDim s ![]) (b : BitVec 32) (i : s.Idx) :
    broadcastInDim s ![] h (sitofp φ (constantI S_ 32 b) : FVec Ideal S_ φ) i = ((b.toInt : ℝ) : EReal) := by
  rw [broadcastInDim_scalar_apply]; rfl
/-- The activation of an array. -/
theorem hostGelu_at (h : S_.BroadcastsInDim s ![]) (y : FVec Ideal s .f32) (i : s.Idx) :
    mulf (mulf (broadcastInDim s ![] h (constant (F := Ideal) S_ .f32 0x3F000000#32)) y)
      (addf (broadcastInDim s ![] h (constant (F := Ideal) S_ .f32 0x3F800000#32))
        (Host.tanh (mulf (broadcastInDim s ![] h (constant (F := Ideal) S_ .f32 0x3F4C422A#32)) (addf y
          (mulf (broadcastInDim s ![] h (constant (F := Ideal) S_ .f32 0x3D372713#32)) (mulf (mulf y y) y)))))) i = gelu (y i) := by
  rw [mulf_apply, mulf_apply, flat_at, addf_apply, flat_at, hostTanh_at, mulf_apply, flat_at, addf_apply, mulf_apply,
    flat_at, mulf_apply, mulf_apply, gelu_cube]

end Reads

/-! ## Arrays of blocks, of any size -/

section Blocks
variable {a b m n : ℕ} {α : Type}

/-- One number per block, spread over an array with two axes of one element. -/
theorem perBlock_at (h : (⟨2, ![a, b]⟩ : Shape).BroadcastsInDim ⟨4, ![a, 1, b, 1]⟩ ![0, 2]) (x : (⟨2, ![a, b]⟩ : Shape).Idx → α)
    (c : Fin a) (u : Fin 1) (s : Fin b) (v : Fin 1) : broadcastInDim ⟨4, ![a, 1, b, 1]⟩ ![0, 2] h x (ix4 c u s v) = x (ix2 c s) :=
  broadcastInDim_apply _ _ _ _ _ (by
    intro d
    fin_cases d
    · show c.val = if a = 1 then 0 else c.val
      split
      · have := c.isLt; omega
      · rfl
    · show s.val = if b = 1 then 0 else s.val
      split
      · have := s.isLt; omega
      · rfl)

/-- One number per block, spread over the block's elements. -/
theorem overBlock_at (h : (⟨4, ![a, 1, b, 1]⟩ : Shape).BroadcastsInDim ⟨4, ![a, m, b, n]⟩ ![0, 1, 2, 3])
    (x : (⟨4, ![a, 1, b, 1]⟩ : Shape).Idx → α) (c : Fin a) (r : Fin m) (s : Fin b) (k : Fin n) :
    broadcastInDim ⟨4, ![a, m, b, n]⟩ ![0, 1, 2, 3] h x (ix4 c r s k) = x (ix4 c 0 s 0) :=
  broadcastInDim_apply _ _ _ _ _ (by
    intro d
    fin_cases d
    · show c.val = if a = 1 then 0 else c.val
      split
      · have := c.isLt; omega
      · rfl
    · rfl
    · show s.val = if b = 1 then 0 else s.val
      split
      · have := s.isLt; omega
      · rfl
    · rfl)

/-- The largest absolute value of each block. -/
theorem topBlock_at (A : Fin m → Fin n → EReal) (x : FVec Ideal ⟨4, ![a, m, b, n]⟩ .f32)
    (h : (⟨4, ![a, m, b, n]⟩ : Shape).ReducesTo [1, 3] ⟨2, ![a, b]⟩) (hu : 0 < S_.numel) (c : Fin a) (s : Fin b)
    (hx : ∀ r k, x (ix4 c r s k) = A r k) :
    Host.reduce FloatOps.maximumf (Host.absf x) (constant (F := Ideal) S_ .f32 0xFF800000#32) h hu (ix2 c s) = top A := by
  rw [Host.reduce_eq_fold, fold_max _ _ ((constant_apply _ _).trans ofBits_bot)]
  refine le_antisymm (Finset.sup_le fun i hi => ?_) (Finset.sup_le fun p _ => ?_)
  · obtain ⟨c', r, s', k, rfl⟩ : ∃ (c' : Fin a) (r : Fin m) (s' : Fin b) (k : Fin n), i = ix4 c' r s' k :=
      ⟨i 0, i 1, i 2, i 3, eq_ix4 i⟩
    have e := (Finset.mem_filter.1 hi).2
    obtain rfl : c' = c := Fin.ext ((h.drop_apply_val_of_eq (ix4 c' r s' k) 0 0 Nat.zero_lt_two rfl).symm.trans
      (congrArg (fun j : (⟨2, ![a, b]⟩ : Shape).Idx => (j 0).val) e))
    obtain rfl : s' = s := Fin.ext ((h.drop_apply_val_of_eq (ix4 c' r s' k) 1 2 Nat.one_lt_two rfl).symm.trans
      (congrArg (fun j : (⟨2, ![a, b]⟩ : Shape).Idx => (j 1).val) e))
    rw [hostAbs_at, hx]
    exact Finset.le_sup (f := fun p : Fin m × Fin n => max (A p.1 p.2) (-(A p.1 p.2))) (Finset.mem_univ (r, k))
  · have hp : max (A p.1 p.2) (-(A p.1 p.2)) = Host.absf x (ix4 c p.1 s p.2) := by rw [hostAbs_at, hx]
    rw [hp]
    refine Finset.le_sup (α := EReal) (f := Host.absf x) (Finset.mem_filter.2 ⟨Finset.mem_univ _, ?_⟩)
    refine (eq_ix2 _).trans (congrArg₂ ix2 (Fin.ext ?_) (Fin.ext ?_))
    · exact h.drop_apply_val_of_eq (ix4 c p.1 s p.2) 0 0 Nat.zero_lt_two rfl
    · exact h.drop_apply_val_of_eq (ix4 c p.1 s p.2) 1 2 Nat.one_lt_two rfl

end Blocks

/-! ## The steps -/

section Steps
variable (x : FVec Ideal S4096x4096 .f32) (w : FVec Ideal S4096x2048 .f32)

/-- A matrix by rows and columns. -/
def entries {m n : ℕ} (x : (⟨2, ![m, n]⟩ : Shape).Idx → EReal) : Fin m → Fin n → EReal := fun i j => x (ix2 i j)

/-- The first argument cut into blocks. -/
def cut : FVec Ideal S8x512x8x512 .f32 := shapeCast S8x512x8x512 x shapeCasts_S4096x4096_S8x512x8x512

theorem cut_apply (c : Fin 8) (r : Fin 512) (s : Fin 8) (k : Fin 512) :
    cut x (ix4 c r s k) = blk (entries x) c s r k := by
  unfold cut
  refine shapeCast_apply _ _ _ (ix2 (at8 c r) (at8 s k)) ?_
  rw [Shape.rowMajor_val_two, Shape.rowMajor_val_four]
  show (512 * c.val + r.val) * 4096 + (512 * s.val + k.val) = ((c.val * 512 + r.val) * 8 + s.val) * 512 + k.val
  omega

/-- The largest absolute value of each block, at least `1e-20`. -/
def largest : FVec Ideal S8x1x8x1 .f32 :=
  maximumf (broadcastInDim S8x1x8x1 ![0, 2] bcast_S8x8_S8x1x8x1_0_2
      (Host.reduce FloatOps.maximumf (Host.absf (cut x)) (constant S_ .f32 0xFF800000#32) reducesTo_S8x512x8x512_S8x8_d1_3 h_S_))
    (broadcastInDim S8x1x8x1 ![] bcast_S_S8x1x8x1 (constant S_ .f32 0x1E3CE508#32))

theorem largest_apply (c : Fin 8) (u : Fin 1) (s : Fin 8) (v : Fin 1) :
    largest x (ix4 c u s v) = amax (blk (entries x) c s) := by
  unfold largest
  rw [maximumf_apply, flat_at, perBlock_at, topBlock_at (blk (entries x) c s) (cut x) _ _ c s (fun r k => cut_apply x c r s k),
    amax, tiny]

/-- Every element quantised. -/
def quantised : FVec Ideal S8x512x8x512 .f32 :=
  minimumf (broadcastInDim S8x512x8x512 ![] bcast_S_S8x512x8x512 (sitofp .f32 (constantI S_ 32 127#32)))
    (maximumf (broadcastInDim S8x512x8x512 ![] bcast_S_S8x512x8x512 (sitofp .f32 (constantI S_ 32 4294967169#32)))
      (Host.floor (addf (mulf (cut x) (broadcastInDim S8x512x8x512 ![0, 1, 2, 3] bcast_S8x1x8x1_S8x512x8x512_0_1_2_3
          (Host.divf (broadcastInDim S8x1x8x1 ![] bcast_S_S8x1x8x1 (constant S_ .f32 0x42FE0000#32)) (largest x))))
        (broadcastInDim S8x512x8x512 ![] bcast_S_S8x512x8x512 (constant S_ .f32 0x3F000000#32)))))

theorem lo_int : (((4294967169#32 : BitVec 32).toInt : ℝ) : EReal) = ((-127 : ℝ) : EReal) := by
  rw [show (4294967169#32 : BitVec 32).toInt = -127 by decide, Int.cast_neg, Int.cast_ofNat]
theorem hi_int : (((127#32 : BitVec 32).toInt : ℝ) : EReal) = ((127 : ℝ) : EReal) := by
  rw [show (127#32 : BitVec 32).toInt = 127 by decide, Int.cast_ofNat]

theorem quantised_apply (c : Fin 8) (r : Fin 512) (s : Fin 8) (k : Fin 512) :
    quantised x (ix4 c r s k) = qz (amax (blk (entries x) c s)) (blk (entries x) c s r k) := by
  unfold quantised
  rw [minimumf_apply, maximumf_apply, flatInt_at, flatInt_at, hi_int, lo_int, hostFloor_at, addf_apply, flat_at, mulf_apply,
    cut_apply, overBlock_at, hostDivf_apply, flat_at, largest_apply, ofBits_127, qz]

/-- The scale of each block, over its elements. -/
def scales : FVec Ideal S8x512x8x512 .f32 :=
  broadcastInDim S8x512x8x512 ![0, 1, 2, 3] bcast_S8x1x8x1_S8x512x8x512_0_1_2_3
    (Host.divf (largest x) (broadcastInDim S8x1x8x1 ![] bcast_S_S8x1x8x1 (constant S_ .f32 0x42FE0000#32)))

theorem scales_apply (c : Fin 8) (r : Fin 512) (s : Fin 8) (k : Fin 512) :
    scales x (ix4 c r s k) = Ideal.div (amax (blk (entries x) c s)) ((127 : ℝ) : EReal) := by
  unfold scales
  rw [overBlock_at, hostDivf_apply, flat_at, largest_apply, ofBits_127]

/-- Which blocks lie on the diagonal. -/
def diagonal : IVec S8x512x8x512 1 :=
  broadcastInDim S8x512x8x512 ![0, 1, 2, 3] bcast_S8x1x8x1_S8x512x8x512_0_1_2_3
    (cmpi .eq
      (broadcastInDim S8x1x8x1 ![0, 1, 2, 3] bcast_S8x1x1x1_S8x1x8x1_0_1_2_3 (shapeCast S8x1x1x1 (iotaInDim S8 32 0) shapeCasts_S8_S8x1x1x1))
      (broadcastInDim S8x1x8x1 ![0, 1, 2, 3] bcast_S1x1x8x1_S8x1x8x1_0_1_2_3 (shapeCast S1x1x8x1 (iotaInDim S8 32 0) shapeCasts_S8_S1x1x8x1)))

/-- Two block numbers compared as words. -/
theorem same_word : ∀ c s : Fin 8, IntOp.cmpi .eq (BitVec.ofNat 32 c.val) (BitVec.ofNat 32 s.val) = if c = s then 1#1 else 0#1 := by
  decide

theorem rowNo_apply (c : Fin 8) (u : Fin 1) (s : Fin 8) (v : Fin 1) :
    broadcastInDim S8x1x8x1 ![0, 1, 2, 3] bcast_S8x1x1x1_S8x1x8x1_0_1_2_3
      (shapeCast S8x1x1x1 (iotaInDim S8 32 0) shapeCasts_S8_S8x1x1x1) (ix4 c u s v) = BitVec.ofNat 32 c.val := by
  rw [broadcastInDim_apply _ _ _ (ix4 c u s v) (ix4 c 0 0 0) (by intro d; fin_cases d <;> rfl),
    shapeCast_apply _ _ (ix4 c 0 0 0) (ix1 c) (by
      rw [Shape.rowMajor_val_one, Shape.rowMajor_val_four]
      show c.val = ((c.val * 1 + 0) * 1 + 0) * 1 + 0
      omega), iotaInDim_apply]

theorem colNo_apply (c : Fin 8) (u : Fin 1) (s : Fin 8) (v : Fin 1) :
    broadcastInDim S8x1x8x1 ![0, 1, 2, 3] bcast_S1x1x8x1_S8x1x8x1_0_1_2_3
      (shapeCast S1x1x8x1 (iotaInDim S8 32 0) shapeCasts_S8_S1x1x8x1) (ix4 c u s v) = BitVec.ofNat 32 s.val := by
  rw [broadcastInDim_apply _ _ _ (ix4 c u s v) (ix4 0 0 s 0) (by intro d; fin_cases d <;> rfl),
    shapeCast_apply _ _ (ix4 0 0 s 0) (ix1 s) (by
      rw [Shape.rowMajor_val_one, Shape.rowMajor_val_four]
      show s.val = ((0 * 1 + 0) * 8 + s.val) * 1 + 0
      omega), iotaInDim_apply]

theorem diagonal_apply (c : Fin 8) (r : Fin 512) (s : Fin 8) (k : Fin 512) :
    diagonal (ix4 c r s k) = if c = s then 1#1 else 0#1 := by
  unfold diagonal
  rw [overBlock_at]
  exact (congrArg₂ (IntOp.cmpi .eq) (rowNo_apply c 0 s 0) (colNo_apply c 0 s 0)).trans (same_word c s)

/-- The elements as they enter the product. -/
def entering : FVec Ideal S8x512x8x512 .f32 := select diagonal (cut x) (mulf (quantised x) (scales x))

theorem entering_apply (c : Fin 8) (r : Fin 512) (s : Fin 8) (k : Fin 512) :
    entering x (ix4 c r s k) = elem (entries x) c s r k := by
  unfold entering
  rw [select_apply, diagonal_apply, elem]
  split
  · rw [select_one, cut_apply]
  · rw [select_zero, mulf_apply, quantised_apply, scales_apply]

/-- The product. -/
def product : FVec Ideal S4096x2048 .f32 :=
  Host.dotGeneral dot_S4096x4096_S4096x2048_S4096x2048_1_0_0_1_n_n none
    (shapeCast S4096x4096 (entering x) shapeCasts_S8x512x8x512_S4096x4096) w

theorem joined_apply (c : Fin 8) (r : Fin 512) (s : Fin 8) (k : Fin 512) :
    shapeCast S4096x4096 (entering x) shapeCasts_S8x512x8x512_S4096x4096 (ix2 (at8 c r) (at8 s k)) = elem (entries x) c s r k := by
  rw [← entering_apply]
  refine shapeCast_apply _ _ _ (ix4 c r s k) ?_
  rw [Shape.rowMajor_val_two, Shape.rowMajor_val_four]
  show ((c.val * 512 + r.val) * 8 + s.val) * 512 + k.val = (512 * c.val + r.val) * 4096 + (512 * s.val + k.val)
  omega

theorem product_apply (c : Fin 8) (r : Fin 512) (n : Fin 2048) :
    product x w (ix2 (at8 c r) n) = ∑ s : Fin 8, share (entries x) (entries w) c s r n := by
  unfold product
  refine (StackMember.dotGeneral_plain_apply (m := 4096) (k := 4096) (n := 2048) none _ w (at8 c r) n).trans ?_
  rw [sum_blocks]
  refine Finset.sum_congr rfl fun s _ => Finset.sum_congr rfl fun k _ => ?_
  exact congrArg (· * w (ix2 (at8 s k) n)) (joined_apply x c r s k)

/-- The product activated. -/
def activated : FVec Ideal S4096x2048 .bf16 :=
  truncf .bf16 (mulf (mulf (broadcastInDim S4096x2048 ![] bcast_S_S4096x2048 (constant S_ .f32 0x3F000000#32)) (product x w))
    (addf (broadcastInDim S4096x2048 ![] bcast_S_S4096x2048 (constant S_ .f32 0x3F800000#32))
      (Host.tanh (mulf (broadcastInDim S4096x2048 ![] bcast_S_S4096x2048 (constant S_ .f32 0x3F4C422A#32)) (addf (product x w)
        (mulf (broadcastInDim S4096x2048 ![] bcast_S_S4096x2048 (constant S_ .f32 0x3D372713#32))
          (mulf (mulf (product x w) (product x w)) (product x w)))))))) bitsLt_bf16_f32

theorem activated_apply (c : Fin 8) (r : Fin 512) (n : Fin 2048) :
    activated x w (ix2 (at8 c r) n) = answer (entries x) (entries w) c r n := by
  unfold activated
  rw [truncf_apply, hostGelu_at, product_apply, answer]

end Steps

/-- The reference's result. -/
theorem result_apply (m : (ℓ : Loc nD τ sig) → Buf (Elt Ideal) ℓ) (c : Dev nD) (d : Fin 8) (r : Fin 512) (n : Fin 2048) :
    (res_main_v41 m c : S4096x2048.Idx → EReal) (ix2 (at8 d r) n)
      = answer (entries (m ((c : Thread nD τ).loc main_arg0) : S4096x4096.Idx → EReal))
          (entries (m ((c : Thread nD τ).loc main_arg1) : S4096x2048.Idx → EReal)) d r n := by
  refine Eq.trans ?_ (activated_apply _ _ d r n)
  unfold res_main_v41
  rfl

end Cert.ReferenceIdeal.Value
end
-- ==== Proof.Algebraic.lean ====
/-
# The kernel computes the reference

On eight devices, each holding its columns of the first matrix and the whole second one, every device ends with its rows
of the reference's result.
-/
module

public import proofs.«01_k».proof.Proof.Frames
public import proofs.«01_k».proof.Proof.KernelValue
public import proofs.«01_k».proof.Proof.ReferenceValue

@[expose] public section

noncomputable section

namespace Cert.KernelIdeal.Run

open Cert.KernelIdeal Cert.KernelIdeal.Gen Cert.Scalars
open Idealize.ShloMosaic Idealize.ShloMosaic.TcCoe Idealize.ShloMosaic.ValueIdx Idealize.SL.Sem

/-- An element of the result array, read in the column block it lies in. -/
theorem out_read (f : outM.view.ty.Contents (Elt Ideal)) (h : ℕ) (hh : h < 4) (r n : Fin 512) :
    (outM.view.readAt (Elt Ideal) (outR h hh).toLoadRect f : S512x512.Idx → EReal) (ix2 r n)
      = (f : S512x2048.Idx → EReal) (ix2 r (colOf h hh n)) := by
  refine congrArg f (funext fun a => Fin.ext ?_)
  fin_cases a
  · show 0 + 1 * r.val = r.val; omega
  · show 512 * h + 1 * n.val = 512 * h + n.val; omega

variable {m : (ℓ : Loc nD τ sig) → Buf (Elt Ideal) ℓ}
  {X : (⟨2, ![4096, 4096]⟩ : Shape).Idx → EReal} {W : (⟨2, ![4096, 2048]⟩ : Shape).Idx → EReal}

/-- An element of a device's result array at the end. -/
theorem ends_apply (H : Holds m X W) (c : Dev nD) (s : MemSt nD τ sig (Elt Ideal)) (E : Ends m c s) (r : Fin 512) (n : Fin 2048) :
    (s.mem ((c : Thread nD τ).loc main_v1) : S512x2048.Idx → EReal) (ix2 r n) = answer (mtx X) (mtx W) c r n := by
  have hn : n.val < 2048 := n.isLt
  have hh : n.val / 512 < 4 := by omega
  have e : colOf (n.val / 512) hh ⟨n.val % 512, by omega⟩ = n := Fin.ext (by
    show 512 * (n.val / 512) + n.val % 512 = n.val
    omega)
  have k := resTile_answer H c (n.val / 512) hh r ⟨n.val % 512, by omega⟩
  rw [← E.1, out_read, e] at k
  exact k

/-- A device's result array at the end holds its rows of an array whose elements are the answers. -/
theorem ends_rows (H : Holds m X W) (c : Dev nD) (s : MemSt nD τ sig (Elt Ideal)) (E : Ends m c s)
    (v : (⟨2, ![4096, 2048]⟩ : Shape).Idx → EReal) (hv : ∀ (d : Fin 8) (r : Fin 512) (n : Fin 2048),
      v (ix2 (at8 d r) n) = answer (mtx X) (mtx W) d r n) :
    (s.mem ((c : Thread nD τ).loc main_v1) : S512x2048.Idx → EReal) = Layout.block ⟨2, ![512, 2048]⟩ ⟨2, ![4096, 2048]⟩ 0 8 c v := by
  funext j
  obtain ⟨r, n, rfl⟩ : ∃ (r : Fin 512) (n : Fin 2048), j = ix2 r n := ⟨j 0, j 1, eq_ix2 j⟩
  rw [ends_apply H c s E, Layout.block_apply, ← hv]
  refine congrArg v (funext fun a => Fin.ext ?_)
  fin_cases a
  · refine Eq.trans ?_ (Layout.idx_rows_val _ c (ix2 r n)).1.symm
    show 512 * c.val + r.val = c.val * 512 + r.val
    omega
  · exact (Layout.idx_rows_val _ c (ix2 r n)).2.symm

end Cert.KernelIdeal.Run

namespace Cert.Proof

open Idealize.ShloMosaic Idealize.ShloMosaic.TcCoe Idealize.SL.Sem

/-- From matching arguments every device of the kernel ends with its rows of the reference's result. -/
theorem algebraic : Cert.algebraic_KernelIdeal_ReferenceIdeal := fun m g m' g' _ H =>
  ⟨Cert.ReferenceIdeal.Value.res_out0 m' 0,
    (θ_run _ _ _).mono (fun r h c =>
      ⟨Cert.KernelIdeal.Run.ends_rows H c r.2 (h.1 c) _ (Cert.ReferenceIdeal.Value.result_apply m' 0), (h.1 c).2⟩)
      (Cert.KernelIdeal.Run.run_main m g),
    (θ_run _ _ _).mono (fun _ h => h 0) (Cert.ReferenceIdeal.Value.run m' g')⟩

end Cert.Proof
end
-- ==== Proof.lean ====
/-
# The claims of 01_k

The three programs' stated facts, their frames, the named constant, and the equality of the kernel and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  frame_p, frame_pi, frame_ri, preserves, algebraic⟩

end Cert.Proof

end
